-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clips_idle [hPre_clips_idle : Cert.Pre_clips_idle.Facts] (m : (ℓ : Loc Cert.KernelIdeal.nD Cert.KernelIdeal.τ Cert.KernelIdeal.sig) → Buf (Elt Ideal) ℓ) : Prop :=
  ∀ c : Dev Cert.KernelIdeal.nD,
    (Cert.Pre_clips_idle.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clips_idle [hPre_clips_idle : Cert.Pre_clips_idle.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clips_idle.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_clips_idle [hKernelIdeal : Cert.KernelIdeal.Facts] [hPre_clips_idle : Cert.Pre_clips_idle.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clips_idle m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_clips_idle [hReferenceIdeal : Cert.ReferenceIdeal.Facts] [hPre_clips_idle : Cert.Pre_clips_idle.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clips_idle m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_clips_idle [hKernelIdeal : Cert.KernelIdeal.Facts] [hReferenceIdeal : Cert.ReferenceIdeal.Facts] [hPre_clips_idle : Cert.Pre_clips_idle.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clips_idle m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_clips_idle : Cert.Pre_clips_idle.Facts),
    quiescent_Kernel (hKernel := hKernel)
    ∧ quiescent_KernelIdeal (hKernelIdeal := hKernelIdeal)
    ∧ quiescent_KernelIdeal_pre_clips_idle (hKernelIdeal := hKernelIdeal) (hPre_clips_idle := hPre_clips_idle)
    ∧ quiescent_ReferenceIdeal (hReferenceIdeal := hReferenceIdeal)
    ∧ quiescent_ReferenceIdeal_pre_clips_idle (hReferenceIdeal := hReferenceIdeal) (hPre_clips_idle := hPre_clips_idle)
    ∧ preserves_Kernel_KernelIdeal
    ∧ algebraic_KernelIdeal_ReferenceIdeal_pre_clips_idle (hKernelIdeal := hKernelIdeal) (hReferenceIdeal := hReferenceIdeal) (hPre_clips_idle := hPre_clips_idle)
-- ==== Pre_clips_idle.lean ====
abbrev S65536x16 : Shape := ⟨2, ![65536, 16]⟩
abbrev S65536x16x43 : Shape := ⟨3, ![65536, 16, 43]⟩
abbrev S65536x16x21 : Shape := ⟨3, ![65536, 16, 21]⟩
abbrev S65536x16x22 : Shape := ⟨3, ![65536, 16, 22]⟩
abbrev S_ : Shape := ⟨0, ![]⟩
abbrev S65536x16x1 : Shape := ⟨3, ![65536, 16, 1]⟩

class Facts : Prop where
  slices_S65536x16x43_S65536x16x21_0_0_22 : S65536x16x43.Slices ![0, 0, 22] S65536x16x21
  slices_S65536x16x43_S65536x16x22_0_0_0 : S65536x16x43.Slices ![0, 0, 0] S65536x16x22
  reducesTo_S65536x16x21_S65536x16_d2 : S65536x16x21.ReducesTo [2] S65536x16
  h_S_ : 0 < S_.numel
  bcast_S65536x16_S65536x16x1_0_1 : S65536x16.BroadcastsInDim S65536x16x1 (![0, 1] : Fin 2 → Fin S65536x16x1.rank)
  bcast_S65536x16x1_S65536x16x21_0_1_2 : S65536x16x1.BroadcastsInDim S65536x16x21 (![0, 1, 2] : Fin 3 → Fin S65536x16x21.rank)
  slices_S65536x16x22_S65536x16x21_0_0_0 : S65536x16x22.Slices ![0, 0, 0] S65536x16x21
  slices_S65536x16x22_S65536x16x21_0_0_1 : S65536x16x22.Slices ![0, 0, 1] S65536x16x21
  bcast_S_S65536x16x21 : S_.BroadcastsInDim S65536x16x21 (![] : Fin 0 → Fin S65536x16x21.rank)
  bcast_S65536x16x1_S65536x16x22_0_1_2 : S65536x16x1.BroadcastsInDim S65536x16x22 (![0, 1, 2] : Fin 3 → Fin S65536x16x22.rank)
  reducesTo_S65536x16x21_S_d0_1_2 : S65536x16x21.ReducesTo [0, 1, 2] S_
  bcast_S_S65536x16x22 : S_.BroadcastsInDim S65536x16x22 (![] : Fin 0 → Fin S65536x16x22.rank)
  reducesTo_S65536x16x22_S_d0_1_2 : S65536x16x22.ReducesTo [0, 1, 2] S_

variable [Facts]

def fn_part1 {F : FTy → Type} [FloatOps F] (main_v7 : FVec F S65536x16x21 .f32) (main_v17 : FVec F S65536x16x22 .f32) (main_v19 : IVec S65536x16x21 1) : IVec S_ 1 :=
  let main_c : IVec S_ 1 := constantI S_ 1 1#1
  let main_v20 : IVec S_ 1 := (fun x v => Host.reduce IntOp.andi x v reducesTo_S65536x16x21_S_d0_1_2 h_S_) main_v19 main_c
  let main_cst_3 : FVec F S_ .f32 := constant S_ .f32 0x358637BD#32
  let main_v21 : FVec F S65536x16x21 .f32 := broadcastInDim S65536x16x21 ![] bcast_S_S65536x16x21 main_cst_3
  let main_v22 : IVec S65536x16x21 1 := cmpf .oge main_v7 main_v21
  let main_c_4 : IVec S_ 1 := constantI S_ 1 1#1
  let main_v23 : IVec S_ 1 := (fun x v => Host.reduce IntOp.andi x v reducesTo_S65536x16x21_S_d0_1_2 h_S_) main_v22 main_c_4
  let main_v24 : IVec S_ 1 := andi main_v20 main_v23
  let main_cst_5 : FVec F S_ .f32 := constant S_ .f32 0x358637BD#32
  let main_v25 : FVec F S65536x16x22 .f32 := broadcastInDim S65536x16x22 ![] bcast_S_S65536x16x22 main_cst_5
  let main_v26 : IVec S65536x16x22 1 := cmpf .oge main_v17 main_v25
  let main_c_6 : IVec S_ 1 := constantI S_ 1 1#1
  let main_v27 : IVec S_ 1 := (fun x v => Host.reduce IntOp.andi x v reducesTo_S65536x16x22_S_d0_1_2 h_S_) main_v26 main_c_6
  let main_v28 : IVec S_ 1 := andi main_v24 main_v27
  main_v28

def fn {F : FTy → Type} [FloatOps F] (main_arg0 : FVec F S65536x16 .f32) (main_arg1 : FVec F S65536x16x43 .f32) : IVec S_ 1 :=
  let main_v0 : FVec F S65536x16x21 .f32 := (extractStridedSlice S65536x16x21 ![0, 0, 22] · slices_S65536x16x43_S65536x16x21_0_0_22) main_arg1
  let main_v1 : FVec F S65536x16x21 .f32 := Host.exp main_v0
  let main_v2 : FVec F S65536x16x22 .f32 := (extractStridedSlice S65536x16x22 ![0, 0, 0] · slices_S65536x16x43_S65536x16x22_0_0_0) main_arg1
  let main_v3 : FVec F S65536x16x22 .f32 := Host.exp main_v2
  let main_cst : FVec F S_ .f32 := constant S_ .f32 0x00000000#32
  let main_v4 : FVec F S65536x16 .f32 := (fun x v => Host.reduceAdd x v reducesTo_S65536x16x21_S65536x16_d2 h_S_) main_v1 main_cst
  let main_v5 : FVec F S65536x16x1 .f32 := broadcastInDim S65536x16x1 ![0, 1] bcast_S65536x16_S65536x16x1_0_1 main_v4
  let main_v6 : FVec F S65536x16x21 .f32 := broadcastInDim S65536x16x21 ![0, 1, 2] bcast_S65536x16x1_S65536x16x21_0_1_2 main_v5
  let main_v7 : FVec F S65536x16x21 .f32 := Host.divf main_v1 main_v6
  let main_v8 : FVec F S65536x16x21 .f32 := (extractStridedSlice S65536x16x21 ![0, 0, 0] · slices_S65536x16x22_S65536x16x21_0_0_0) main_v3
  let main_v9 : FVec F S65536x16x21 .f32 := (extractStridedSlice S65536x16x21 ![0, 0, 1] · slices_S65536x16x22_S65536x16x21_0_0_1) main_v3
  let main_v10 : FVec F S65536x16x21 .f32 := addf main_v8 main_v9
  let main_cst_0 : FVec F S_ .f32 := constant S_ .f32 0x40000000#32
  let main_v11 : FVec F S65536x16x21 .f32 := broadcastInDim S65536x16x21 ![] bcast_S_S65536x16x21 main_cst_0
  let main_v12 : FVec F S65536x16x21 .f32 := Host.divf main_v10 main_v11
  let main_v13 : FVec F S65536x16x21 .f32 := mulf main_v12 main_v7
  let main_cst_1 : FVec F S_ .f32 := constant S_ .f32 0x00000000#32
  let main_v14 : FVec F S65536x16 .f32 := (fun x v => Host.reduceAdd x v reducesTo_S65536x16x21_S65536x16_d2 h_S_) main_v13 main_cst_1
  let main_v15 : FVec F S65536x16x1 .f32 := broadcastInDim S65536x16x1 ![0, 1] bcast_S65536x16_S65536x16x1_0_1 main_v14
  let main_v16 : FVec F S65536x16x22 .f32 := broadcastInDim S65536x16x22 ![0, 1, 2] bcast_S65536x16x1_S65536x16x22_0_1_2 main_v15
  let main_v17 : FVec F S65536x16x22 .f32 := Host.divf main_v3 main_v16
  let main_cst_2 : FVec F S_ .f32 := constant S_ .f32 0x358637BD#32
  let main_v18 : FVec F S65536x16x21 .f32 := broadcastInDim S65536x16x21 ![] bcast_S_S65536x16x21 main_cst_2
  let main_v19 : IVec S65536x16x21 1 := cmpf .oge main_v1 main_v18
  fn_part1 (F := F) main_v7 main_v17 main_v19
-- ==== Kernel.lean ====
abbrev S65536x16 : Shape := ⟨2, ![65536, 16]⟩
abbrev S65536x16x43 : Shape := ⟨3, ![65536, 16, 43]⟩
abbrev S43x16x65536 : Shape := ⟨3, ![43, 16, 65536]⟩
abbrev S16x65536 : Shape := ⟨2, ![16, 65536]⟩
abbrev S1x65536 : Shape := ⟨2, ![1, 65536]⟩
abbrev S16x8192 : Shape := ⟨2, ![16, 8192]⟩
abbrev S43x16x8192 : Shape := ⟨3, ![43, 16, 8192]⟩
abbrev S1x8192 : Shape := ⟨2, ![1, 8192]⟩
abbrev S1x16x8192 : Shape := ⟨3, ![1, 16, 8192]⟩
abbrev S8192 : Shape := ⟨1, ![8192]⟩
abbrev S65536x1 : Shape := ⟨2, ![65536, 1]⟩

abbrev nBuf : Space → Nat
  | .hbm => 8
  | .vmem => 8
  | .smem => 0
  | _ => 0

abbrev bufTy : (tb : Table) → Fin (tcTables nBuf tb) → BufTy
  | .hbm, ⟨0, _⟩ => ⟨S65536x16, .f32⟩
  | .hbm, ⟨1, _⟩ => ⟨S65536x16x43, .f32⟩
  | .hbm, ⟨2, _⟩ => ⟨S43x16x65536, .f32⟩
  | .hbm, ⟨3, _⟩ => ⟨S16x65536, .f32⟩
  | .hbm, ⟨4, _⟩ => ⟨S16x65536, .f32⟩
  | .hbm, ⟨5, _⟩ => ⟨S1x65536, .f32⟩
  | .hbm, ⟨6, _⟩ => ⟨S65536x16, .f32⟩
  | .hbm, ⟨7, _⟩ => ⟨S65536x1, .f32⟩
  | .local _ .vmem, ⟨0, _⟩ => ⟨S16x8192, .f32⟩
  | .local _ .vmem, ⟨1, _⟩ => ⟨S16x8192, .f32⟩
  | .local _ .vmem, ⟨2, _⟩ => ⟨S43x16x8192, .f32⟩
  | .local _ .vmem, ⟨3, _⟩ => ⟨S43x16x8192, .f32⟩
  | .local _ .vmem, ⟨4, _⟩ => ⟨S16x8192, .f32⟩
  | .local _ .vmem, ⟨5, _⟩ => ⟨S16x8192, .f32⟩
  | .local _ .vmem, ⟨6, _⟩ => ⟨S1x8192, .f32⟩
  | .local _ .vmem, ⟨7, _⟩ => ⟨S1x8192, .f32⟩
  | _, _ => ⟨S65536x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S43x16x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S65536x16 : Shape := ⟨2, ![65536, 16]⟩
abbrev S65536x16x43 : Shape := ⟨3, ![65536, 16, 43]⟩
abbrev S65536x16x22 : Shape := ⟨3, ![65536, 16, 22]⟩
abbrev S65536x16x21 : Shape := ⟨3, ![65536, 16, 21]⟩
abbrev S_ : Shape := ⟨0, ![]⟩
abbrev S65536x16x1 : Shape := ⟨3, ![65536, 16, 1]⟩
abbrev S65536x16x1x1 : Shape := ⟨4, ![65536, 16, 1, 1]⟩
abbrev S1 : Shape := ⟨1, ![1]⟩
abbrev S1x1x1x1 : Shape := ⟨4, ![1, 1, 1, 1]⟩
abbrev S65536 : Shape := ⟨1, ![65536]⟩
abbrev S65536x1 : Shape := ⟨2, ![65536, 1]⟩

abbrev nBuf : Space → Nat
  | .hbm => 356
  | .vmem => 0
  | .smem => 0
  | _ => 0

abbrev hbmTy0_0 (i : Nat) : BufTy := match i % 128 with
  | 0 => ⟨S65536x16, .f32⟩
  | 1 => ⟨S65536x16x43, .f32⟩
  | 2 => ⟨S65536x16x22, .f32⟩
  | 3 => ⟨S65536x16x21, .f32⟩
  | 4 => ⟨S65536x16x21, .f32⟩
  | 5 => ⟨S_, .f32⟩
  | 6 => ⟨S_, .f32⟩
  | 7 => ⟨S65536x16x21, .f32⟩
  | 8 => ⟨S65536x16x21, .f32⟩
  | 9 => ⟨S_, .f32⟩
  | 10 => ⟨S_, .f32⟩
  | 11 => ⟨S65536x16x21, .f32⟩
  | 12 => ⟨S65536x16x1, .f32⟩
  | 13 => ⟨S65536x16x21, .f32⟩
  | 14 => ⟨S65536x16x21, .f32⟩
  | 15 => ⟨S_, .f32⟩
  | 16 => ⟨S_, .f32⟩
  | 17 => ⟨S65536x16x21, .f32⟩
  | 18 => ⟨S65536x16x21, .f32⟩
  | 19 => ⟨S65536x16x21, .f32⟩
  | 20 => ⟨S65536x16x21, .f32⟩
  | 21 => ⟨S_, .f32⟩
  | 22 => ⟨S65536x16x1, .f32⟩
  | 23 => ⟨S65536x16x22, .f32⟩
  | 24 => ⟨S65536x16x22, .f32⟩
  | 25 => ⟨S65536x16x21, .f32⟩
  | 26 => ⟨S65536x16x21, .f32⟩
  | 27 => ⟨S65536x16x21, .f32⟩
  | 28 => ⟨S_, .f32⟩
  | 29 => ⟨S65536x16x21, .f32⟩
  | 30 => ⟨S65536x16x21, .f32⟩
  | 31 => ⟨S65536x16x21, .f32⟩
  | 32 => ⟨S_, .f32⟩
  | 33 => ⟨S65536x16, .f32⟩
  | 34 => ⟨S65536x16x1, .f32⟩
  | 35 => ⟨S65536x16x22, .f32⟩
  | 36 => ⟨S65536x16x22, .f32⟩
  | 37 => ⟨S_, .f32⟩
  | 38 => ⟨S_, .f32⟩
  | 39 => ⟨S65536x16x22, .f32⟩
  | 40 => ⟨S65536x16x22, .f32⟩
  | 41 => ⟨S65536x16x1, .f32⟩
  | 42 => ⟨S65536x16x21, .f32⟩
  | 43 => ⟨S65536x16x21, .i1⟩
  | 44 => ⟨S_, .f32⟩
  | 45 => ⟨S65536x16x21, .f32⟩
  | 46 => ⟨S_, .f32⟩
  | 47 => ⟨S65536x16x21, .f32⟩
  | 48 => ⟨S65536x16x21, .f32⟩
  | 49 => ⟨S_, .f32⟩
  | 50 => ⟨S65536x16x1, .f32⟩
  | 51 => ⟨S_, .f32⟩
  | 52 => ⟨S65536x16x1, .f32⟩
  | 53 => ⟨S65536x16x1, .f32⟩
  | 54 => ⟨S65536x16x21, .f32⟩
  | 55 => ⟨S65536x16x22, .f32⟩
  | 56 => ⟨S_, .f32⟩
  | 57 => ⟨S65536x16, .f32⟩
  | 58 => ⟨S65536x16x1, .f32⟩
  | 59 => ⟨S65536x16x22, .i32⟩
  | 60 => ⟨S65536x16x22, .f32⟩
  | 61 => ⟨S65536x16x22, .i1⟩
  | 62 => ⟨S_, .i32⟩
  | 63 => ⟨S_, .i32⟩
  | 64 => ⟨S65536x16x22, .i32⟩
  | 65 => ⟨S65536x16x22, .i32⟩
  | 66 => ⟨S_, .i32⟩
  | 67 => ⟨S65536x16, .i32⟩
  | 68 => ⟨S65536x16x1, .i32⟩
  | 69 => ⟨S_, .i32⟩
  | 70 => ⟨S_, .i32⟩
  | 71 => ⟨S_, .i32⟩
  | 72 => ⟨S65536x16x1, .i32⟩
  | 73 => ⟨S65536x16x1, .i32⟩
  | 74 => ⟨S_, .i32⟩
  | 75 => ⟨S65536x16x1, .i32⟩
  | 76 => ⟨S65536x16x1, .i32⟩
  | 77 => ⟨S_, .i32⟩
  | 78 => ⟨S65536x16x1, .i32⟩
  | 79 => ⟨S65536x16x1, .i1⟩
  | 80 => ⟨S_, .i32⟩
  | 81 => ⟨S65536x16x1, .i32⟩
  | 82 => ⟨S65536x16x1, .i32⟩
  | 83 => ⟨S65536x16x1, .i32⟩
  | 84 => ⟨S65536x16x1x1, .i32⟩
  | 85 => ⟨S1, .i32⟩
  | 86 => ⟨S_, .i32⟩
  | 87 => ⟨S65536x16x1x1, .i32⟩
  | 88 => ⟨S65536x16x1x1, .i1⟩
  | 89 => ⟨S1x1x1x1, .i32⟩
  | 90 => ⟨S65536x16x1x1, .i32⟩
  | 91 => ⟨S65536x16x1x1, .i1⟩
  | 92 => ⟨S65536x16x1x1, .i1⟩
  | 93 => ⟨S_, .i1⟩
  | 94 => ⟨S65536x16x1, .i1⟩
  | 95 => ⟨S65536x16x1, .f32⟩
  | 96 => ⟨S_, .f32⟩
  | 97 => ⟨S65536x16x1, .f32⟩
  | 98 => ⟨S65536x16x1, .f32⟩
  | 99 => ⟨S65536x16, .f32⟩
  | 100 => ⟨S65536x16, .f32⟩
  | 101 => ⟨S_, .i32⟩
  | 102 => ⟨S65536x16x1, .i32⟩
  | 103 => ⟨S65536x16x1, .i1⟩
  | 104 => ⟨S_, .i32⟩
  | 105 => ⟨S65536x16x1, .i32⟩
  | 106 => ⟨S65536x16x1, .i32⟩
  | 107 => ⟨S65536x16x1, .i32⟩
  | 108 => ⟨S65536x16x1x1, .i32⟩
  | 109 => ⟨S1, .i32⟩
  | 110 => ⟨S_, .i32⟩
  | 111 => ⟨S65536x16x1x1, .i32⟩
  | 112 => ⟨S65536x16x1x1, .i1⟩
  | 113 => ⟨S1x1x1x1, .i32⟩
  | 114 => ⟨S65536x16x1x1, .i32⟩
  | 115 => ⟨S65536x16x1x1, .i1⟩
  | 116 => ⟨S65536x16x1x1, .i1⟩
  | 117 => ⟨S_, .i1⟩
  | 118 => ⟨S65536x16x1, .i1⟩
  | 119 => ⟨S65536x16x1, .f32⟩
  | 120 => ⟨S_, .f32⟩
  | 121 => ⟨S65536x16x1, .f32⟩
  | 122 => ⟨S65536x16x1, .f32⟩
  | 123 => ⟨S65536x16, .f32⟩
  | 124 => ⟨S65536x16, .f32⟩
  | 125 => ⟨S_, .f32⟩
  | 126 => ⟨S_, .f32⟩
  | 127 => ⟨S_, .f32⟩
  | _ => ⟨S65536x16, .f32⟩

abbrev hbmTy0_1 (i : Nat) : BufTy := match i % 128 with
  | 0 => ⟨S65536x16, .f32⟩
  | 1 => ⟨S65536x16, .f32⟩
  | 2 => ⟨S_, .f32⟩
  | 3 => ⟨S65536x16, .f32⟩
  | 4 => ⟨S65536x16, .f32⟩
  | 5 => ⟨S65536x16x21, .f32⟩
  | 6 => ⟨S65536x16x21, .f32⟩
  | 7 => ⟨S65536x16x21, .f32⟩
  | 8 => ⟨S_, .f32⟩
  | 9 => ⟨S65536x16x21, .f32⟩
  | 10 => ⟨S65536x16x21, .f32⟩
  | 11 => ⟨S65536x16x21, .f32⟩
  | 12 => ⟨S_, .f32⟩
  | 13 => ⟨S_, .f32⟩
  | 14 => ⟨S65536x16x21, .f32⟩
  | 15 => ⟨S65536x16x22, .f32⟩
  | 16 => ⟨S65536x16, .f32⟩
  | 17 => ⟨S_, .f32⟩
  | 18 => ⟨S65536x16, .f32⟩
  | 19 => ⟨S65536x16, .f32⟩
  | 20 => ⟨S_, .i32⟩
  | 21 => ⟨S65536x16x1, .i32⟩
  | 22 => ⟨S65536x16x1, .i32⟩
  | 23 => ⟨S_, .i32⟩
  | 24 => ⟨S65536x16x1, .i32⟩
  | 25 => ⟨S65536x16x1, .i1⟩
  | 26 => ⟨S_, .i32⟩
  | 27 => ⟨S65536x16x1, .i32⟩
  | 28 => ⟨S65536x16x1, .i32⟩
  | 29 => ⟨S65536x16x1, .i32⟩
  | 30 => ⟨S65536x16x1x1, .i32⟩
  | 31 => ⟨S1, .i32⟩
  | 32 => ⟨S_, .i32⟩
  | 33 => ⟨S65536x16x1x1, .i32⟩
  | 34 => ⟨S65536x16x1x1, .i1⟩
  | 35 => ⟨S1x1x1x1, .i32⟩
  | 36 => ⟨S65536x16x1x1, .i32⟩
  | 37 => ⟨S65536x16x1x1, .i1⟩
  | 38 => ⟨S65536x16x1x1, .i1⟩
  | 39 => ⟨S_, .i1⟩
  | 40 => ⟨S65536x16x1, .i1⟩
  | 41 => ⟨S65536x16x1, .f32⟩
  | 42 => ⟨S_, .f32⟩
  | 43 => ⟨S65536x16x1, .f32⟩
  | 44 => ⟨S65536x16x1, .f32⟩
  | 45 => ⟨S_, .i32⟩
  | 46 => ⟨S65536x16x1, .i32⟩
  | 47 => ⟨S65536x16x1, .i1⟩
  | 48 => ⟨S_, .i32⟩
  | 49 => ⟨S65536x16x1, .i32⟩
  | 50 => ⟨S65536x16x1, .i32⟩
  | 51 => ⟨S65536x16x1, .i32⟩
  | 52 => ⟨S65536x16x1x1, .i32⟩
  | 53 => ⟨S1, .i32⟩
  | 54 => ⟨S_, .i32⟩
  | 55 => ⟨S65536x16x1x1, .i32⟩
  | 56 => ⟨S65536x16x1x1, .i1⟩
  | 57 => ⟨S1x1x1x1, .i32⟩
  | 58 => ⟨S65536x16x1x1, .i32⟩
  | 59 => ⟨S65536x16x1x1, .i1⟩
  | 60 => ⟨S65536x16x1x1, .i1⟩
  | 61 => ⟨S_, .i1⟩
  | 62 => ⟨S65536x16x1, .i1⟩
  | 63 => ⟨S65536x16x1, .f32⟩
  | 64 => ⟨S_, .f32⟩
  | 65 => ⟨S65536x16x1, .f32⟩
  | 66 => ⟨S65536x16x1, .f32⟩
  | 67 => ⟨S65536x16x1, .f32⟩
  | 68 => ⟨S_, .i32⟩
  | 69 => ⟨S65536x16x1, .i32⟩
  | 70 => ⟨S65536x16x1, .i1⟩
  | 71 => ⟨S_, .i32⟩
  | 72 => ⟨S65536x16x1, .i32⟩
  | 73 => ⟨S65536x16x1, .i32⟩
  | 74 => ⟨S65536x16x1, .i32⟩
  | 75 => ⟨S65536x16x1x1, .i32⟩
  | 76 => ⟨S1, .i32⟩
  | 77 => ⟨S_, .i32⟩
  | 78 => ⟨S65536x16x1x1, .i32⟩
  | 79 => ⟨S65536x16x1x1, .i1⟩
  | 80 => ⟨S1x1x1x1, .i32⟩
  | 81 => ⟨S65536x16x1x1, .i32⟩
  | 82 => ⟨S65536x16x1x1, .i1⟩
  | 83 => ⟨S65536x16x1x1, .i1⟩
  | 84 => ⟨S_, .i1⟩
  | 85 => ⟨S65536x16x1, .i1⟩
  | 86 => ⟨S65536x16x1, .f32⟩
  | 87 => ⟨S_, .f32⟩
  | 88 => ⟨S65536x16x1, .f32⟩
  | 89 => ⟨S65536x16x1, .f32⟩
  | 90 => ⟨S65536x16x1, .f32⟩
  | 91 => ⟨S65536x16, .f32⟩
  | 92 => ⟨S65536x16, .f32⟩
  | 93 => ⟨S_, .i32⟩
  | 94 => ⟨S65536x16x1, .i32⟩
  | 95 => ⟨S65536x16x1, .i1⟩
  | 96 => ⟨S_, .i32⟩
  | 97 => ⟨S65536x16x1, .i32⟩
  | 98 => ⟨S65536x16x1, .i32⟩
  | 99 => ⟨S65536x16x1, .i32⟩
  | 100 => ⟨S65536x16x1x1, .i32⟩
  | 101 => ⟨S1, .i32⟩
  | 102 => ⟨S_, .i32⟩
  | 103 => ⟨S65536x16x1x1, .i32⟩
  | 104 => ⟨S65536x16x1x1, .i1⟩
  | 105 => ⟨S1x1x1x1, .i32⟩
  | 106 => ⟨S65536x16x1x1, .i32⟩
  | 107 => ⟨S65536x16x1x1, .i1⟩
  | 108 => ⟨S65536x16x1x1, .i1⟩
  | 109 => ⟨S_, .i1⟩
  | 110 => ⟨S65536x16x1, .i1⟩
  | 111 => ⟨S65536x16x1, .f32⟩
  | 112 => ⟨S_, .f32⟩
  | 113 => ⟨S65536x16x1, .f32⟩
  | 114 => ⟨S65536x16x1, .f32⟩
  | 115 => ⟨S65536x16, .f32⟩
  | 116 => ⟨S65536x16, .f32⟩
  | 117 => ⟨S_, .i32⟩
  | 118 => ⟨S65536x16x1, .i32⟩
  | 119 => ⟨S65536x16x1, .i1⟩
  | 120 => ⟨S_, .i32⟩
  | 121 => ⟨S65536x16x1, .i32⟩
  | 122 => ⟨S65536x16x1, .i32⟩
  | 123 => ⟨S65536x16x1, .i32⟩
  | 124 => ⟨S65536x16x1x1, .i32⟩
  | 125 => ⟨S1, .i32⟩
  | 126 => ⟨S_, .i32⟩
  | 127 => ⟨S65536x16x1x1, .i32⟩
  | _ => ⟨S65536x16, .f32⟩

abbrev hbmTy0_2 (i : Nat) : BufTy := match i % 128 with
  | 0 => ⟨S65536x16x1x1, .i1⟩
  | 1 => ⟨S1x1x1x1, .i32⟩
  | 2 => ⟨S65536x16x1x1, .i32⟩
  | 3 => ⟨S65536x16x1x1, .i1⟩
  | 4 => ⟨S65536x16x1x1, .i1⟩
  | 5 => ⟨S_, .i1⟩
  | 6 => ⟨S65536x16x1, .i1⟩
  | 7 => ⟨S65536x16x1, .f32⟩
  | 8 => ⟨S_, .f32⟩
  | 9 => ⟨S65536x16x1, .f32⟩
  | 10 => ⟨S65536x16x1, .f32⟩
  | 11 => ⟨S65536x16, .f32⟩
  | 12 => ⟨S65536x16, .f32⟩
  | 13 => ⟨S_, .i32⟩
  | 14 => ⟨S65536x16x1, .i32⟩
  | 15 => ⟨S65536x16x1, .i1⟩
  | 16 => ⟨S_, .i32⟩
  | 17 => ⟨S65536x16x1, .i32⟩
  | 18 => ⟨S65536x16x1, .i32⟩
  | 19 => ⟨S65536x16x1, .i32⟩
  | 20 => ⟨S65536x16x1x1, .i32⟩
  | 21 => ⟨S1, .i32⟩
  | 22 => ⟨S_, .i32⟩
  | 23 => ⟨S65536x16x1x1, .i32⟩
  | 24 => ⟨S65536x16x1x1, .i1⟩
  | 25 => ⟨S1x1x1x1, .i32⟩
  | 26 => ⟨S65536x16x1x1, .i32⟩
  | 27 => ⟨S65536x16x1x1, .i1⟩
  | 28 => ⟨S65536x16x1x1, .i1⟩
  | 29 => ⟨S_, .i1⟩
  | 30 => ⟨S65536x16x1, .i1⟩
  | 31 => ⟨S65536x16x1, .f32⟩
  | 32 => ⟨S_, .f32⟩
  | 33 => ⟨S65536x16x1, .f32⟩
  | 34 => ⟨S65536x16x1, .f32⟩
  | 35 => ⟨S65536x16, .f32⟩
  | 36 => ⟨S65536x16, .f32⟩
  | 37 => ⟨S65536x16, .f32⟩
  | 38 => ⟨S_, .f32⟩
  | 39 => ⟨S_, .f32⟩
  | 40 => ⟨S65536x16, .f32⟩
  | 41 => ⟨S65536x16, .f32⟩
  | 42 => ⟨S65536x16, .f32⟩
  | 43 => ⟨S65536x16, .f32⟩
  | 44 => ⟨S_, .i32⟩
  | 45 => ⟨S65536x16x1, .i32⟩
  | 46 => ⟨S65536x16x1, .i1⟩
  | 47 => ⟨S_, .i32⟩
  | 48 => ⟨S65536x16x1, .i32⟩
  | 49 => ⟨S65536x16x1, .i32⟩
  | 50 => ⟨S65536x16x1, .i32⟩
  | 51 => ⟨S65536x16x1x1, .i32⟩
  | 52 => ⟨S1, .i32⟩
  | 53 => ⟨S_, .i32⟩
  | 54 => ⟨S65536x16x1x1, .i32⟩
  | 55 => ⟨S65536x16x1x1, .i1⟩
  | 56 => ⟨S1x1x1x1, .i32⟩
  | 57 => ⟨S65536x16x1x1, .i32⟩
  | 58 => ⟨S65536x16x1x1, .i1⟩
  | 59 => ⟨S65536x16x1x1, .i1⟩
  | 60 => ⟨S_, .i1⟩
  | 61 => ⟨S65536x16x1, .i1⟩
  | 62 => ⟨S65536x16x1, .f32⟩
  | 63 => ⟨S_, .f32⟩
  | 64 => ⟨S65536x16x1, .f32⟩
  | 65 => ⟨S65536x16x1, .f32⟩
  | 66 => ⟨S65536x16, .f32⟩
  | 67 => ⟨S_, .i32⟩
  | 68 => ⟨S65536x16x1, .i32⟩
  | 69 => ⟨S65536x16x1, .i32⟩
  | 70 => ⟨S_, .i32⟩
  | 71 => ⟨S65536x16x1, .i32⟩
  | 72 => ⟨S65536x16x1, .i1⟩
  | 73 => ⟨S_, .i32⟩
  | 74 => ⟨S65536x16x1, .i32⟩
  | 75 => ⟨S65536x16x1, .i32⟩
  | 76 => ⟨S65536x16x1, .i32⟩
  | 77 => ⟨S65536x16x1x1, .i32⟩
  | 78 => ⟨S1, .i32⟩
  | 79 => ⟨S_, .i32⟩
  | 80 => ⟨S65536x16x1x1, .i32⟩
  | 81 => ⟨S65536x16x1x1, .i1⟩
  | 82 => ⟨S1x1x1x1, .i32⟩
  | 83 => ⟨S65536x16x1x1, .i32⟩
  | 84 => ⟨S65536x16x1x1, .i1⟩
  | 85 => ⟨S65536x16x1x1, .i1⟩
  | 86 => ⟨S_, .i1⟩
  | 87 => ⟨S65536x16x1, .i1⟩
  | 88 => ⟨S65536x16x1, .f32⟩
  | 89 => ⟨S_, .f32⟩
  | 90 => ⟨S65536x16x1, .f32⟩
  | 91 => ⟨S65536x16x1, .f32⟩
  | 92 => ⟨S65536x16, .f32⟩
  | 93 => ⟨S65536x16, .f32⟩
  | 94 => ⟨S65536x16, .f32⟩
  | 95 => ⟨S65536x16, .f32⟩
  | 96 => ⟨S65536x16, .f32⟩
  | 97 => ⟨S_, .f32⟩
  | 98 => ⟨S65536, .f32⟩
  | 99 => ⟨S65536x1, .f32⟩
  | _ => ⟨S65536x16, .f32⟩

abbrev hbmTy (i : Nat) : BufTy := match i / 128 with
  | 0 => hbmTy0_0 i
  | 1 => hbmTy0_1 i
  | 2 => hbmTy0_2 i
  | _ => ⟨S65536x16, .f32⟩

abbrev bufTy : (tb : Table) → Fin (tcTables nBuf tb) → BufTy
  | .hbm, ⟨i, _⟩ => hbmTy i
  | _, _ => ⟨S65536x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_call0_v0 : Ref sig .tc := ⟨.hbm, 6, rfl⟩
abbrev main_call0_v1 : Ref sig .tc := ⟨.hbm, 7, rfl⟩
abbrev main_v3 : Ref sig .tc := ⟨.hbm, 8, rfl⟩
abbrev main_call1_call0_cst : Ref sig .tc := ⟨.hbm, 9, rfl⟩
abbrev main_call1_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_call2_v0 : Ref sig .tc := ⟨.hbm, 16, rfl⟩
abbrev main_call2_v1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_call3_v0 : Ref sig .tc := ⟨.hbm, 38, rfl⟩
abbrev main_call3_v1 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c : Ref sig .tc := ⟨.hbm, 62, rfl⟩
abbrev main_call5_v0 : Ref sig .tc := ⟨.hbm, 63, rfl⟩
abbrev main_call5_v1 : Ref sig .tc := ⟨.hbm, 64, rfl⟩
abbrev main_v41 : Ref sig .tc := ⟨.hbm, 65, rfl⟩
abbrev main_c_10 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_c_12 : Ref sig .tc := ⟨.hbm, 70, rfl⟩
abbrev main_call6_v0 : Ref sig .tc := ⟨.hbm, 71, rfl⟩
abbrev main_call6_v1 : Ref sig .tc := ⟨.hbm, 72, rfl⟩
abbrev main_call6_v2 : Ref sig .tc := ⟨.hbm, 73, rfl⟩
abbrev main_call6_v3 : Ref sig .tc := ⟨.hbm, 74, rfl⟩
abbrev main_call6_v4 : Ref sig .tc := ⟨.hbm, 75, rfl⟩
abbrev main_v44 : Ref sig .tc := ⟨.hbm, 76, rfl⟩
abbrev main_call7_c : Ref sig .tc := ⟨.hbm, 77, rfl⟩
abbrev main_call7_v0 : Ref sig .tc := ⟨.hbm, 78, rfl⟩
abbrev main_call7_v1 : Ref sig .tc := ⟨.hbm, 79, rfl⟩
abbrev main_call7_c_0 : Ref sig .tc := ⟨.hbm, 80, rfl⟩
abbrev main_call7_v2 : Ref sig .tc := ⟨.hbm, 81, rfl⟩
abbrev main_call7_v3 : Ref sig .tc := ⟨.hbm, 82, rfl⟩
abbrev main_call7_v4 : Ref sig .tc := ⟨.hbm, 83, rfl⟩
abbrev main_call7_v5 : Ref sig .tc := ⟨.hbm, 84, rfl⟩
abbrev main_call7_c_1 : Ref sig .tc := ⟨.hbm, 85, rfl⟩
abbrev main_call7_c_2 : Ref sig .tc := ⟨.hbm, 86, rfl⟩
abbrev main_call7_v6 : Ref sig .tc := ⟨.hbm, 87, rfl⟩
abbrev main_call7_v7 : Ref sig .tc := ⟨.hbm, 88, rfl⟩
abbrev main_call7_v8 : Ref sig .tc := ⟨.hbm, 89, rfl⟩
abbrev main_call7_v9 : Ref sig .tc := ⟨.hbm, 90, rfl⟩
abbrev main_call7_v10 : Ref sig .tc := ⟨.hbm, 91, rfl⟩
abbrev main_call7_v11 : Ref sig .tc := ⟨.hbm, 92, rfl⟩
abbrev main_call7_c_3 : Ref sig .tc := ⟨.hbm, 93, rfl⟩
abbrev main_call7_v12 : Ref sig .tc := ⟨.hbm, 94, rfl⟩
abbrev main_call7_v13 : Ref sig .tc := ⟨.hbm, 95, rfl⟩
abbrev main_call7_cst : Ref sig .tc := ⟨.hbm, 96, rfl⟩
abbrev main_call7_v14 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_call8_c : Ref sig .tc := ⟨.hbm, 101, rfl⟩
abbrev main_call8_v0 : Ref sig .tc := ⟨.hbm, 102, rfl⟩
abbrev main_call8_v1 : Ref sig .tc := ⟨.hbm, 103, rfl⟩
abbrev main_call8_c_0 : Ref sig .tc := ⟨.hbm, 104, rfl⟩
abbrev main_call8_v2 : Ref sig .tc := ⟨.hbm, 105, rfl⟩
abbrev main_call8_v3 : Ref sig .tc := ⟨.hbm, 106, rfl⟩
abbrev main_call8_v4 : Ref sig .tc := ⟨.hbm, 107, rfl⟩
abbrev main_call8_v5 : Ref sig .tc := ⟨.hbm, 108, rfl⟩
abbrev main_call8_c_1 : Ref sig .tc := ⟨.hbm, 109, rfl⟩
abbrev main_call8_c_2 : Ref sig .tc := ⟨.hbm, 110, rfl⟩
abbrev main_call8_v6 : Ref sig .tc := ⟨.hbm, 111, rfl⟩
abbrev main_call8_v7 : Ref sig .tc := ⟨.hbm, 112, rfl⟩
abbrev main_call8_v8 : Ref sig .tc := ⟨.hbm, 113, rfl⟩
abbrev main_call8_v9 : Ref sig .tc := ⟨.hbm, 114, rfl⟩
abbrev main_call8_v10 : Ref sig .tc := ⟨.hbm, 115, rfl⟩
abbrev main_call8_v11 : Ref sig .tc := ⟨.hbm, 116, rfl⟩
abbrev main_call8_c_3 : Ref sig .tc := ⟨.hbm, 117, rfl⟩
abbrev main_call8_v12 : Ref sig .tc := ⟨.hbm, 118, rfl⟩
abbrev main_call8_v13 : Ref sig .tc := ⟨.hbm, 119, rfl⟩
abbrev main_call8_cst : Ref sig .tc := ⟨.hbm, 120, rfl⟩
abbrev main_call8_v14 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_cst_13 : Ref sig .tc := ⟨.hbm, 125, rfl⟩
abbrev main_cst_14 : Ref sig .tc := ⟨.hbm, 126, rfl⟩
abbrev main_call9_v0 : Ref sig .tc := ⟨.hbm, 127, rfl⟩
abbrev main_call9_v1 : Ref sig .tc := ⟨.hbm, 128, rfl⟩
abbrev main_call9_v2 : Ref sig .tc := ⟨.hbm, 129, rfl⟩
abbrev main_call9_v3 : Ref sig .tc := ⟨.hbm, 130, rfl⟩
abbrev main_call9_v4 : Ref sig .tc := ⟨.hbm, 131, rfl⟩
abbrev main_v51 : Ref sig .tc := ⟨.hbm, 132, rfl⟩
abbrev main_v52 : Ref sig .tc := ⟨.hbm, 133, rfl⟩
abbrev main_v53 : Ref sig .tc := ⟨.hbm, 134, rfl⟩
abbrev main_v54 : Ref sig .tc := ⟨.hbm, 135, rfl⟩
abbrev main_cst_15 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_call10_call0_cst : Ref sig .tc := ⟨.hbm, 140, rfl⟩
abbrev main_call10_call0_v0 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_cst_16 : Ref sig .tc := ⟨.hbm, 145, rfl⟩
abbrev main_v61 : Ref sig .tc := ⟨.hbm, 146, rfl⟩
abbrev main_v62 : Ref sig .tc := ⟨.hbm, 147, rfl⟩
abbrev main_c_17 : Ref sig .tc := ⟨.hbm, 148, rfl⟩
abbrev main_v63 : Ref sig .tc := ⟨.hbm, 149, rfl⟩
abbrev main_v64 : Ref sig .tc := ⟨.hbm, 150, rfl⟩
abbrev main_call11_c : Ref sig .tc := ⟨.hbm, 151, rfl⟩
abbrev main_call11_v0 : Ref sig .tc := ⟨.hbm, 152, rfl⟩
abbrev main_call11_v1 : Ref sig .tc := ⟨.hbm, 153, rfl⟩
abbrev main_call11_c_0 : Ref sig .tc := ⟨.hbm, 154, rfl⟩
abbrev main_call11_v2 : Ref sig .tc := ⟨.hbm, 155, rfl⟩
abbrev main_call11_v3 : Ref sig .tc := ⟨.hbm, 156, rfl⟩
abbrev main_call11_v4 : Ref sig .tc := ⟨.hbm, 157, rfl⟩
abbrev main_call11_v5 : Ref sig .tc := ⟨.hbm, 158, rfl⟩
abbrev main_call11_c_1 : Ref sig .tc := ⟨.hbm, 159, rfl⟩
abbrev main_call11_c_2 : Ref sig .tc := ⟨.hbm, 160, rfl⟩
abbrev main_call11_v6 : Ref sig .tc := ⟨.hbm, 161, rfl⟩
abbrev main_call11_v7 : Ref sig .tc := ⟨.hbm, 162, rfl⟩
abbrev main_call11_v8 : Ref sig .tc := ⟨.hbm, 163, rfl⟩
abbrev main_call11_v9 : Ref sig .tc := ⟨.hbm, 164, rfl⟩
abbrev main_call11_v10 : Ref sig .tc := ⟨.hbm, 165, rfl⟩
abbrev main_call11_v11 : Ref sig .tc := ⟨.hbm, 166, rfl⟩
abbrev main_call11_c_3 : Ref sig .tc := ⟨.hbm, 167, rfl⟩
abbrev main_call11_v12 : Ref sig .tc := ⟨.hbm, 168, rfl⟩
abbrev main_call11_v13 : Ref sig .tc := ⟨.hbm, 169, rfl⟩
abbrev main_call11_cst : Ref sig .tc := ⟨.hbm, 170, rfl⟩
abbrev main_call11_v14 : Ref sig .tc := ⟨.hbm, 171, rfl⟩
abbrev main_v65 : Ref sig .tc := ⟨.hbm, 172, rfl⟩
abbrev main_call12_c : Ref sig .tc := ⟨.hbm, 173, rfl⟩
abbrev main_call12_v0 : Ref sig .tc := ⟨.hbm, 174, rfl⟩
abbrev main_call12_v1 : Ref sig .tc := ⟨.hbm, 175, rfl⟩
abbrev main_call12_c_0 : Ref sig .tc := ⟨.hbm, 176, rfl⟩
abbrev main_call12_v2 : Ref sig .tc := ⟨.hbm, 177, rfl⟩
abbrev main_call12_v3 : Ref sig .tc := ⟨.hbm, 178, rfl⟩
abbrev main_call12_v4 : Ref sig .tc := ⟨.hbm, 179, rfl⟩
abbrev main_call12_v5 : Ref sig .tc := ⟨.hbm, 180, rfl⟩
abbrev main_call12_c_1 : Ref sig .tc := ⟨.hbm, 181, rfl⟩
abbrev main_call12_c_2 : Ref sig .tc := ⟨.hbm, 182, rfl⟩
abbrev main_call12_v6 : Ref sig .tc := ⟨.hbm, 183, rfl⟩
abbrev main_call12_v7 : Ref sig .tc := ⟨.hbm, 184, rfl⟩
abbrev main_call12_v8 : Ref sig .tc := ⟨.hbm, 185, rfl⟩
abbrev main_call12_v9 : Ref sig .tc := ⟨.hbm, 186, rfl⟩
abbrev main_call12_v10 : Ref sig .tc := ⟨.hbm, 187, rfl⟩
abbrev main_call12_v11 : Ref sig .tc := ⟨.hbm, 188, rfl⟩
abbrev main_call12_c_3 : Ref sig .tc := ⟨.hbm, 189, rfl⟩
abbrev main_call12_v12 : Ref sig .tc := ⟨.hbm, 190, rfl⟩
abbrev main_call12_v13 : Ref sig .tc := ⟨.hbm, 191, rfl⟩
abbrev main_call12_cst : Ref sig .tc := ⟨.hbm, 192, rfl⟩
abbrev main_call12_v14 : Ref sig .tc := ⟨.hbm, 193, rfl⟩
abbrev main_v66 : Ref sig .tc := ⟨.hbm, 194, rfl⟩
abbrev main_v67 : Ref sig .tc := ⟨.hbm, 195, rfl⟩
abbrev main_call13_c : Ref sig .tc := ⟨.hbm, 196, rfl⟩
abbrev main_call13_v0 : Ref sig .tc := ⟨.hbm, 197, rfl⟩
abbrev main_call13_v1 : Ref sig .tc := ⟨.hbm, 198, rfl⟩
abbrev main_call13_c_0 : Ref sig .tc := ⟨.hbm, 199, rfl⟩
abbrev main_call13_v2 : Ref sig .tc := ⟨.hbm, 200, rfl⟩
abbrev main_call13_v3 : Ref sig .tc := ⟨.hbm, 201, rfl⟩
abbrev main_call13_v4 : Ref sig .tc := ⟨.hbm, 202, rfl⟩
abbrev main_call13_v5 : Ref sig .tc := ⟨.hbm, 203, rfl⟩
abbrev main_call13_c_1 : Ref sig .tc := ⟨.hbm, 204, rfl⟩
abbrev main_call13_c_2 : Ref sig .tc := ⟨.hbm, 205, rfl⟩
abbrev main_call13_v6 : Ref sig .tc := ⟨.hbm, 206, rfl⟩
abbrev main_call13_v7 : Ref sig .tc := ⟨.hbm, 207, rfl⟩
abbrev main_call13_v8 : Ref sig .tc := ⟨.hbm, 208, rfl⟩
abbrev main_call13_v9 : Ref sig .tc := ⟨.hbm, 209, rfl⟩
abbrev main_call13_v10 : Ref sig .tc := ⟨.hbm, 210, rfl⟩
abbrev main_call13_v11 : Ref sig .tc := ⟨.hbm, 211, rfl⟩
abbrev main_call13_c_3 : Ref sig .tc := ⟨.hbm, 212, rfl⟩
abbrev main_call13_v12 : Ref sig .tc := ⟨.hbm, 213, rfl⟩
abbrev main_call13_v13 : Ref sig .tc := ⟨.hbm, 214, rfl⟩
abbrev main_call13_cst : Ref sig .tc := ⟨.hbm, 215, rfl⟩
abbrev main_call13_v14 : Ref sig .tc := ⟨.hbm, 216, rfl⟩
abbrev main_v68 : Ref sig .tc := ⟨.hbm, 217, rfl⟩
abbrev main_v69 : Ref sig .tc := ⟨.hbm, 218, rfl⟩
abbrev main_v70 : Ref sig .tc := ⟨.hbm, 219, rfl⟩
abbrev main_v71 : Ref sig .tc := ⟨.hbm, 220, rfl⟩
abbrev main_call14_c : Ref sig .tc := ⟨.hbm, 221, rfl⟩
abbrev main_call14_v0 : Ref sig .tc := ⟨.hbm, 222, rfl⟩
abbrev main_call14_v1 : Ref sig .tc := ⟨.hbm, 223, rfl⟩
abbrev main_call14_c_0 : Ref sig .tc := ⟨.hbm, 224, rfl⟩
abbrev main_call14_v2 : Ref sig .tc := ⟨.hbm, 225, rfl⟩
abbrev main_call14_v3 : Ref sig .tc := ⟨.hbm, 226, rfl⟩
abbrev main_call14_v4 : Ref sig .tc := ⟨.hbm, 227, rfl⟩
abbrev main_call14_v5 : Ref sig .tc := ⟨.hbm, 228, rfl⟩
abbrev main_call14_c_1 : Ref sig .tc := ⟨.hbm, 229, rfl⟩
abbrev main_call14_c_2 : Ref sig .tc := ⟨.hbm, 230, rfl⟩
abbrev main_call14_v6 : Ref sig .tc := ⟨.hbm, 231, rfl⟩
abbrev main_call14_v7 : Ref sig .tc := ⟨.hbm, 232, rfl⟩
abbrev main_call14_v8 : Ref sig .tc := ⟨.hbm, 233, rfl⟩
abbrev main_call14_v9 : Ref sig .tc := ⟨.hbm, 234, rfl⟩
abbrev main_call14_v10 : Ref sig .tc := ⟨.hbm, 235, rfl⟩
abbrev main_call14_v11 : Ref sig .tc := ⟨.hbm, 236, rfl⟩
abbrev main_call14_c_3 : Ref sig .tc := ⟨.hbm, 237, rfl⟩
abbrev main_call14_v12 : Ref sig .tc := ⟨.hbm, 238, rfl⟩
abbrev main_call14_v13 : Ref sig .tc := ⟨.hbm, 239, rfl⟩
abbrev main_call14_cst : Ref sig .tc := ⟨.hbm, 240, rfl⟩
abbrev main_call14_v14 : Ref sig .tc := ⟨.hbm, 241, rfl⟩
abbrev main_v72 : Ref sig .tc := ⟨.hbm, 242, rfl⟩
abbrev main_v73 : Ref sig .tc := ⟨.hbm, 243, rfl⟩
abbrev main_v74 : Ref sig .tc := ⟨.hbm, 244, rfl⟩
abbrev main_call15_c : Ref sig .tc := ⟨.hbm, 245, rfl⟩
abbrev main_call15_v0 : Ref sig .tc := ⟨.hbm, 246, rfl⟩
abbrev main_call15_v1 : Ref sig .tc := ⟨.hbm, 247, rfl⟩
abbrev main_call15_c_0 : Ref sig .tc := ⟨.hbm, 248, rfl⟩
abbrev main_call15_v2 : Ref sig .tc := ⟨.hbm, 249, rfl⟩
abbrev main_call15_v3 : Ref sig .tc := ⟨.hbm, 250, rfl⟩
abbrev main_call15_v4 : Ref sig .tc := ⟨.hbm, 251, rfl⟩
abbrev main_call15_v5 : Ref sig .tc := ⟨.hbm, 252, rfl⟩
abbrev main_call15_c_1 : Ref sig .tc := ⟨.hbm, 253, rfl⟩
abbrev main_call15_c_2 : Ref sig .tc := ⟨.hbm, 254, rfl⟩
abbrev main_call15_v6 : Ref sig .tc := ⟨.hbm, 255, rfl⟩
abbrev main_call15_v7 : Ref sig .tc := ⟨.hbm, 256, rfl⟩
abbrev main_call15_v8 : Ref sig .tc := ⟨.hbm, 257, rfl⟩
abbrev main_call15_v9 : Ref sig .tc := ⟨.hbm, 258, rfl⟩
abbrev main_call15_v10 : Ref sig .tc := ⟨.hbm, 259, rfl⟩
abbrev main_call15_v11 : Ref sig .tc := ⟨.hbm, 260, rfl⟩
abbrev main_call15_c_3 : Ref sig .tc := ⟨.hbm, 261, rfl⟩
abbrev main_call15_v12 : Ref sig .tc := ⟨.hbm, 262, rfl⟩
abbrev main_call15_v13 : Ref sig .tc := ⟨.hbm, 263, rfl⟩
abbrev main_call15_cst : Ref sig .tc := ⟨.hbm, 264, rfl⟩
abbrev main_call15_v14 : Ref sig .tc := ⟨.hbm, 265, rfl⟩
abbrev main_v75 : Ref sig .tc := ⟨.hbm, 266, rfl⟩
abbrev main_v76 : Ref sig .tc := ⟨.hbm, 267, rfl⟩
abbrev main_v77 : Ref sig .tc := ⟨.hbm, 268, rfl⟩
abbrev main_call16_c : Ref sig .tc := ⟨.hbm, 269, rfl⟩
abbrev main_call16_v0 : Ref sig .tc := ⟨.hbm, 270, rfl⟩
abbrev main_call16_v1 : Ref sig .tc := ⟨.hbm, 271, rfl⟩
abbrev main_call16_c_0 : Ref sig .tc := ⟨.hbm, 272, rfl⟩
abbrev main_call16_v2 : Ref sig .tc := ⟨.hbm, 273, rfl⟩
abbrev main_call16_v3 : Ref sig .tc := ⟨.hbm, 274, rfl⟩
abbrev main_call16_v4 : Ref sig .tc := ⟨.hbm, 275, rfl⟩
abbrev main_call16_v5 : Ref sig .tc := ⟨.hbm, 276, rfl⟩
abbrev main_call16_c_1 : Ref sig .tc := ⟨.hbm, 277, rfl⟩
abbrev main_call16_c_2 : Ref sig .tc := ⟨.hbm, 278, rfl⟩
abbrev main_call16_v6 : Ref sig .tc := ⟨.hbm, 279, rfl⟩
abbrev main_call16_v7 : Ref sig .tc := ⟨.hbm, 280, rfl⟩
abbrev main_call16_v8 : Ref sig .tc := ⟨.hbm, 281, rfl⟩
abbrev main_call16_v9 : Ref sig .tc := ⟨.hbm, 282, rfl⟩
abbrev main_call16_v10 : Ref sig .tc := ⟨.hbm, 283, rfl⟩
abbrev main_call16_v11 : Ref sig .tc := ⟨.hbm, 284, rfl⟩
abbrev main_call16_c_3 : Ref sig .tc := ⟨.hbm, 285, rfl⟩
abbrev main_call16_v12 : Ref sig .tc := ⟨.hbm, 286, rfl⟩
abbrev main_call16_v13 : Ref sig .tc := ⟨.hbm, 287, rfl⟩
abbrev main_call16_cst : Ref sig .tc := ⟨.hbm, 288, rfl⟩
abbrev main_call16_v14 : Ref sig .tc := ⟨.hbm, 289, rfl⟩
abbrev main_v78 : Ref sig .tc := ⟨.hbm, 290, rfl⟩
abbrev main_v79 : Ref sig .tc := ⟨.hbm, 291, rfl⟩
abbrev main_v80 : Ref sig .tc := ⟨.hbm, 292, rfl⟩
abbrev main_v81 : Ref sig .tc := ⟨.hbm, 293, rfl⟩
abbrev main_cst_18 : Ref sig .tc := ⟨.hbm, 294, rfl⟩
abbrev main_cst_19 : Ref sig .tc := ⟨.hbm, 295, rfl⟩
abbrev main_call17_v0 : Ref sig .tc := ⟨.hbm, 296, rfl⟩
abbrev main_call17_v1 : Ref sig .tc := ⟨.hbm, 297, rfl⟩
abbrev main_call17_v2 : Ref sig .tc := ⟨.hbm, 298, rfl⟩
abbrev main_v82 : Ref sig .tc := ⟨.hbm, 299, rfl⟩
abbrev main_call18_c : Ref sig .tc := ⟨.hbm, 300, rfl⟩
abbrev main_call18_v0 : Ref sig .tc := ⟨.hbm, 301, rfl⟩
abbrev main_call18_v1 : Ref sig .tc := ⟨.hbm, 302, rfl⟩
abbrev main_call18_c_0 : Ref sig .tc := ⟨.hbm, 303, rfl⟩
abbrev main_call18_v2 : Ref sig .tc := ⟨.hbm, 304, rfl⟩
abbrev main_call18_v3 : Ref sig .tc := ⟨.hbm, 305, rfl⟩
abbrev main_call18_v4 : Ref sig .tc := ⟨.hbm, 306, rfl⟩
abbrev main_call18_v5 : Ref sig .tc := ⟨.hbm, 307, rfl⟩
abbrev main_call18_c_1 : Ref sig .tc := ⟨.hbm, 308, rfl⟩
abbrev main_call18_c_2 : Ref sig .tc := ⟨.hbm, 309, rfl⟩
abbrev main_call18_v6 : Ref sig .tc := ⟨.hbm, 310, rfl⟩
abbrev main_call18_v7 : Ref sig .tc := ⟨.hbm, 311, rfl⟩
abbrev main_call18_v8 : Ref sig .tc := ⟨.hbm, 312, rfl⟩
abbrev main_call18_v9 : Ref sig .tc := ⟨.hbm, 313, rfl⟩
abbrev main_call18_v10 : Ref sig .tc := ⟨.hbm, 314, rfl⟩
abbrev main_call18_v11 : Ref sig .tc := ⟨.hbm, 315, rfl⟩
abbrev main_call18_c_3 : Ref sig .tc := ⟨.hbm, 316, rfl⟩
abbrev main_call18_v12 : Ref sig .tc := ⟨.hbm, 317, rfl⟩
abbrev main_call18_v13 : Ref sig .tc := ⟨.hbm, 318, rfl⟩
abbrev main_call18_cst : Ref sig .tc := ⟨.hbm, 319, rfl⟩
abbrev main_call18_v14 : Ref sig .tc := ⟨.hbm, 320, rfl⟩
abbrev main_v83 : Ref sig .tc := ⟨.hbm, 321, rfl⟩
abbrev main_v84 : Ref sig .tc := ⟨.hbm, 322, rfl⟩
abbrev main_c_20 : Ref sig .tc := ⟨.hbm, 323, rfl⟩
abbrev main_v85 : Ref sig .tc := ⟨.hbm, 324, rfl⟩
abbrev main_v86 : Ref sig .tc := ⟨.hbm, 325, rfl⟩
abbrev main_call19_c : Ref sig .tc := ⟨.hbm, 326, rfl⟩
abbrev main_call19_v0 : Ref sig .tc := ⟨.hbm, 327, rfl⟩
abbrev main_call19_v1 : Ref sig .tc := ⟨.hbm, 328, rfl⟩
abbrev main_call19_c_0 : Ref sig .tc := ⟨.hbm, 329, rfl⟩
abbrev main_call19_v2 : Ref sig .tc := ⟨.hbm, 330, rfl⟩
abbrev main_call19_v3 : Ref sig .tc := ⟨.hbm, 331, rfl⟩
abbrev main_call19_v4 : Ref sig .tc := ⟨.hbm, 332, rfl⟩
abbrev main_call19_v5 : Ref sig .tc := ⟨.hbm, 333, rfl⟩
abbrev main_call19_c_1 : Ref sig .tc := ⟨.hbm, 334, rfl⟩
abbrev main_call19_c_2 : Ref sig .tc := ⟨.hbm, 335, rfl⟩
abbrev main_call19_v6 : Ref sig .tc := ⟨.hbm, 336, rfl⟩
abbrev main_call19_v7 : Ref sig .tc := ⟨.hbm, 337, rfl⟩
abbrev main_call19_v8 : Ref sig .tc := ⟨.hbm, 338, rfl⟩
abbrev main_call19_v9 : Ref sig .tc := ⟨.hbm, 339, rfl⟩
abbrev main_call19_v10 : Ref sig .tc := ⟨.hbm, 340, rfl⟩
abbrev main_call19_v11 : Ref sig .tc := ⟨.hbm, 341, rfl⟩
abbrev main_call19_c_3 : Ref sig .tc := ⟨.hbm, 342, rfl⟩
abbrev main_call19_v12 : Ref sig .tc := ⟨.hbm, 343, rfl⟩
abbrev main_call19_v13 : Ref sig .tc := ⟨.hbm, 344, rfl⟩
abbrev main_call19_cst : Ref sig .tc := ⟨.hbm, 345, rfl⟩
abbrev main_call19_v14 : Ref sig .tc := ⟨.hbm, 346, rfl⟩
abbrev main_v87 : Ref sig .tc := ⟨.hbm, 347, rfl⟩
abbrev main_v88 : Ref sig .tc := ⟨.hbm, 348, rfl⟩
abbrev main_v89 : Ref sig .tc := ⟨.hbm, 349, rfl⟩
abbrev main_v90 : Ref sig .tc := ⟨.hbm, 350, rfl⟩
abbrev main_v91 : Ref sig .tc := ⟨.hbm, 351, rfl⟩
abbrev main_v92 : Ref sig .tc := ⟨.hbm, 352, rfl⟩
abbrev main_cst_21 : Ref sig .tc := ⟨.hbm, 353, rfl⟩
abbrev main_v93 : Ref sig .tc := ⟨.hbm, 354, rfl⟩
abbrev main_v94 : Ref sig .tc := ⟨.hbm, 355, rfl⟩

abbrev nD : Nat := 1
abbrev τ : Topo := Topo.v7x

variable {F : FTy → Type} [FloatOps F]
-- ==== Proof.Spec.lean ====
/- The kernel's arithmetic at one element, over the extended reals: `x` is the element of `x`, `a` its column of
   `wv_tilde` (entries 0 … 21 the heights' logits, entries 22 … 42 the widths'). -/
module

public import Idealize.ShloMosaic.PureOps.Ideal
public import Idealize.ShloMosaic.Lib.Pipeline.ValueKit

@[expose] public section

noncomputable section

namespace Cert.Flow

open Idealize.ShloMosaic

/-- The width of bin `i`, before it is normalized. -/
def W (a : ℕ → EReal) (i : ℕ) : EReal := Ideal.exp (a (22 + i))

/-- The height at knot `i`, before it is normalized. -/
def E (a : ℕ → EReal) (i : ℕ) : EReal := Ideal.exp (a i)

/-- The height at knot `i + 1`. -/
def E1 (a : ℕ → EReal) (i : ℕ) : EReal := E a (i + 1)

/-- The sum of the widths of bins `0 … n`. -/
def C (a : ℕ → EReal) : ℕ → EReal
  | 0 => W a 0
  | n + 1 => C a n + W a (n + 1)

/-- The left edge of bin `n`: the sum of the widths before it. -/
def L (a : ℕ → EReal) : ℕ → EReal
  | 0 => 0
  | n + 1 => C a n

/-- Twice the area of the trapezoid over bin `i`. -/
def trap (a : ℕ → EReal) (i : ℕ) : EReal := (E a i + E a (i + 1)) * W a i

/-- The sum of `trap` over bins `0 … n`. -/
def trapSum (a : ℕ → EReal) : ℕ → EReal
  | 0 => trap a 0
  | n + 1 => trapSum a n + trap a (n + 1)

/-- A chain of selects: `f n` for the last bin `n` whose left edge is at most `x` — both scaled by the total
    width — and `f 0` when none past the first is. -/
def pick (x : EReal) (a f : ℕ → EReal) : ℕ → EReal
  | 0 => f 0
  | n + 1 => Scalar.select (Ideal.cmp .ole (C a n) (x * C a 20)) (f (n + 1)) (pick x a f n)

/-- The sum of the `f i`, `i < n`, over the bins whose right edge is at most `x`. -/
def gain (x : EReal) (a f : ℕ → EReal) : ℕ → EReal
  | 0 => 0
  | n + 1 => gain x a f n + Scalar.select (Ideal.cmp .ole (C a n) (x * C a 20)) (f n) 0

/-- The reciprocal of the total width. -/
def invW (a : ℕ → EReal) : EReal := Ideal.div 1 (C a 20)

/-- The normalized width of the bin `x` falls into. -/
def binW (x : EReal) (a : ℕ → EReal) : EReal := pick x a (W a) 20 * invW a

/-- The position of `x` in its bin, clipped to `[0, 1]`. -/
def alpha (x : EReal) (a : ℕ → EReal) : EReal :=
  min 1 (max 0
    (Ideal.div (x - pick x a (L a) 20 * invW a) (binW x a)))

/-- The factor the heights are normalized by. -/
def invD (a : ℕ → EReal) : EReal := Ideal.div (Ideal.ofBits .f32 0x40000000#32 * C a 20) (trapSum a 20)

/-- The normalized height at the left edge of the bin. -/
def vAt (x : EReal) (a : ℕ → EReal) : EReal := pick x a (E a) 20 * invD a

/-- The rise of the normalized height over the bin. -/
def dv (x : EReal) (a : ℕ → EReal) : EReal := (pick x a (E1 a) 20 - pick x a (E a) 20) * invD a

/-- The first result at one element. -/
def kout (x : EReal) (a : ℕ → EReal) : EReal :=
  min (Ideal.ofBits .f32 0x3F7FFFFE#32) (max (Ideal.ofBits .f32 0x34000000#32)
    (alpha x a * binW x a * (alpha x a * Ideal.ofBits .f32 0x3F000000#32 * dv x a + vAt x a)
      + gain x a (trap a) 20 * (Ideal.ofBits .f32 0x3F000000#32 * invW a * invD a)))

/-- The height interpolated at `x`, whose logarithm the second result sums. -/
def klerp (x : EReal) (a : ℕ → EReal) : EReal := vAt x a + alpha x a * dv x a

end Cert.Flow

end
-- ==== Proof.Block.lean ====
/- One block of the kernel: what its body writes at an index of its two output blocks. -/
module

public import proofs.«01_k».proof.Proof.Gen.KernelIdeal.Frame
public import proofs.«01_k».proof.Proof.Spec
public import Idealize.ShloMosaic.Lib.Pipeline.ValueKit
public import Idealize.ShloMosaic.Lib.ValueLayout

@[expose] public section

set_option maxRecDepth 16384

noncomputable section

namespace Cert.KernelIdeal.Block

open Idealize.ShloMosaic Idealize.ShloMosaic.TcCoe
open Cert.KernelIdeal Cert.KernelIdeal.Gen Cert.Flow

/-- The column of `wv_tilde` over an index of the block. -/
def col (x1 : Vec Ideal S43x16x8192 .f32) (j : S16x8192.Idx) (n : ℕ) : EReal :=
  if h : n < 43 then x1 (ValueIdx.ix3 ⟨n, h⟩ (j 0) (j 1)) else 0

/-- One loaded row, as a function of the index: the column's entry. -/
theorem row (x1 : Vec Ideal S43x16x8192 .f32) (n : ℕ) (h : n < 43) (inb) (hs) :
    shapeCast (s := S1x16x8192) (α := Ideal .f32) S16x8192 (View.ld x1 (Rect.unit (s := S43x16x8192) ![n, 0, 0] S1x16x8192.size inb)) hs = fun j => col x1 j n := by
  funext j
  rw [col, dif_pos h]
  refine (congrArg _ (ValueIdx.eq_ix2 j)).trans ((ValueIdx.shapeCast_1ab_ab_apply _ _ _ _).trans
    (View.ld_unit_apply_of _ _ _ _ _ _ fun a => ?_))
  match a with
  | ⟨0, _⟩ => rfl
  | ⟨1, _⟩ => exact (Nat.zero_add _).symm
  | ⟨2, _⟩ => exact (Nat.zero_add _).symm

/-- What the body writes at an index of its first output block is the first result's arithmetic there. -/
theorem out_at (x0 : Vec Ideal S16x8192 .f32) (x1 : Vec Ideal S43x16x8192 .f32) (j : S16x8192.Idx) :
    out0_2 x0 x1 j = kout (x0 j) (col x1 j) := by
  unfold_out out0_2
  frame_out
  unfold_payloads
  simp only [row, Nat.reduceLT, shapeCast_self]
  simp only [kout, alpha, binW, vAt, dv, pick, gain, invW, invD, C, trapSum, trap, L, E1, W, E, Nat.reduceAdd]
  pointwise

/-- What the body writes at an index of its second output block: over the sixteen rows, the sum of the logarithm of
    the interpolated height. -/
theorem logj_at (x0 : Vec Ideal S16x8192 .f32) (x1 : Vec Ideal S43x16x8192 .f32) (j : S1x8192.Idx) :
    out0_3 x0 x1 j = ∑ k : Fin 16, Ideal.log (klerp (x0 (ix2 k (j 1))) (col x1 (ix2 k (j 1)))) := by
  unfold_out out0_3
  frame_out
  unfold_payloads
  simp only [row, Nat.reduceLT, shapeCast_self]
  simp only [klerp, alpha, binW, vAt, dv, pick, gain, invW, invD, C, trapSum, trap, L, E1, W, E, Nat.reduceAdd]
  pointwise

end Cert.KernelIdeal.Block

end
-- ==== Proof.Arrays.lean ====
/- The kernel's two results as functions of its arguments: the arrays its blocks tile, and the host's movement after
   them. -/
module

public import proofs.«01_k».proof.Proof.Block
public import Idealize.ShloMosaic.Adequacy
public import Idealize.ShloMosaic.Init

@[expose] public section

set_option maxRecDepth 16384

noncomputable section

namespace Cert.KernelIdeal.Arrays

open Idealize.ShloMosaic Idealize.ShloMosaic.TcCoe Idealize.SL.Sem
open Idealize.ShloMosaic.Pipeline (Dat)
open Cert.KernelIdeal Cert.KernelIdeal.Gen Cert.KernelIdeal.Block Cert.Flow

/-- The column of `wv_tilde` over the element `(b, k)`. -/
def column (wv : Vec Ideal S65536x16x43 .f32) (b : Fin 65536) (k : Fin 16) (n : ℕ) : EReal :=
  if h : n < 43 then wv (ix3 b k ⟨n, h⟩) else 0

/-- The first result. -/
def OUT (x : Vec Ideal S65536x16 .f32) (wv : Vec Ideal S65536x16x43 .f32) : Vec Ideal S65536x16 .f32 :=
  fun i => kout (x (ix2 (i 0) (i 1))) (column wv (i 0) (i 1))

/-- The second result. -/
def LOGJ (x : Vec Ideal S65536x16 .f32) (wv : Vec Ideal S65536x16x43 .f32) : Vec Ideal S65536x1 .f32 :=
  fun i => ∑ k : Fin 16, Ideal.log (klerp (x (ix2 (i 0) k)) (column wv (i 0) k))

variable (m : (ℓ : Loc nD τ sig) → Buf (Elt Ideal) ℓ)

/-- The windows' index maps: point `t` is on the `t`-th stretch of the last axis. -/
theorem idx : ∀ t : Fin cfg0.N, win0_0.index t = ![0, t.val] ∧ win0_1.index t = ![0, 0, t.val]
    ∧ win0_2.index t = ![0, t.val] ∧ win0_3.index t = ![0, t.val] :=
  (by decide +kernel : ∀ t : Fin grid0.N, _)

/-- What the region finds in the transposed `x`. -/
theorem entry_x (c : Dev nD) (k : Fin 16) (b : Fin 65536) :
    V m c main_v1 (ix2 k b) = m ((c : Thread nD τ).loc main_arg0) (ix2 b k) := by
  have h : V m c main_v1 = transpose S16x65536 [1, 0] (m ((c : Thread nD τ).loc main_arg0))
      transposes_S65536x16_S16x65536_1_0 := by
    unfold V V0
    simp only [hostOps0, List.flatten_cons, List.flatten_nil, List.append_nil, List.cons_append, List.nil_append]
    after_results; try rfl
  rw [h]
  pointwise

/-- What the region finds in the transposed `wv_tilde`. -/
theorem entry_wv (c : Dev nD) (n : Fin 43) (k : Fin 16) (b : Fin 65536) :
    V m c main_v0 (ix3 n k b) = m ((c : Thread nD τ).loc main_arg1) (ix3 b k n) := by
  have h : V m c main_v0 = transpose S43x16x65536 [2, 1, 0] (m ((c : Thread nD τ).loc main_arg1))
      transposes_S65536x16x43_S43x16x65536_2_1_0 := by
    unfold V V0
    simp only [hostOps0, List.flatten_cons, List.flatten_nil, List.append_nil, List.cons_append, List.nil_append]
    after_results; try rfl
  rw [h]
  pointwise

/-- An element of the block of `x` at point `t`. -/
theorem x_blk (c : Dev nD) (t : Fin cfg0.N) (k : Fin 16) (l : Fin 8192) (b : Fin 65536) (hb : b.val = t.val * 8192 + l.val) :
    iblk m c 0 t (ix2 k l) = m ((c : Thread nD τ).loc main_arg0) (ix2 b k) := by
  rw [← entry_x m c k b]
  blk_simp [iblk]
  congr 1
  blk_ext [idx t, hb]

/-- An element of the block of `wv_tilde` at point `t`. -/
theorem wv_blk (c : Dev nD) (t : Fin cfg0.N) (n : Fin 43) (k : Fin 16) (l : Fin 8192) (b : Fin 65536) (hb : b.val = t.val * 8192 + l.val) :
    iblk m c 1 t (ix3 n k l) = m ((c : Thread nD τ).loc main_arg1) (ix3 b k n) := by
  rw [← entry_wv m c n k b]
  blk_simp [iblk]
  congr 1
  blk_ext [idx t, hb]

/-- A column of the block of `wv_tilde` at point `t` is a column of the array. -/
theorem col_blk (c : Dev nD) (t : Fin cfg0.N) (k : Fin 16) (l : Fin 8192) (b : Fin 65536) (hb : b.val = t.val * 8192 + l.val) :
    col (iblk m c 1 t) (ix2 k l) = column (m ((c : Thread nD τ).loc main_arg1)) b k := by
  funext n
  unfold col column
  split
  · exact wv_blk m c t _ k l b hb
  · rfl

/-- Point `t` and lane `l` name an element of the long axis. -/
theorem pt (t : Fin cfg0.N) (l : Fin 8192) : t.val * 8192 + l.val < 65536 := by
  have h : t.val < 8 := t.isLt
  have := l.isLt
  omega

/-- No two windows are over one array. -/
theorem arr_inj : Function.Injective (Pipeline.arrRef spec0) := by decide

/-- The array the kernel's first output window leaves. -/
def REF2 (x : Vec Ideal S65536x16 .f32) (wv : Vec Ideal S65536x16x43 .f32) : Vec Ideal S16x65536 .f32 :=
  fun i => kout (x (ix2 (i 1) (i 0))) (column wv (i 1) (i 0))

/-- The array the kernel's second output window leaves. -/
def REF3 (x : Vec Ideal S65536x16 .f32) (wv : Vec Ideal S65536x16x43 .f32) : Vec Ideal S1x65536 .f32 :=
  fun i => ∑ k : Fin 16, Ideal.log (klerp (x (ix2 (i 1) k)) (column wv (i 1) k))

/-- The first output array after the last grid point: the results, transposed. -/
theorem final2 (c : Dev nD) : (dats m 0 c).arrAt 2 (cfgs 0).N
    = REF2 (m ((c : Thread nD τ).loc main_arg0)) (m ((c : Thread nD τ).loc main_arg1)) := by
  refine (dats m 0 c).arrAt_eq_of_covers 2 _ (by decide +kernel) fun t _ y => ?_
  blk_simp
  rw [after0_2, out_at]
  obtain ⟨k, l, rfl⟩ : ∃ k l, y = ix2 k l := ⟨y 0, y 1, by pointwise⟩
  have hb : ((win0_2.blk t).view.emb (ix2 k l)) = ix2 k ⟨t.val * 8192 + l.val, pt t l⟩ := by
    blk_ext [idx t]
  rw [hb, x_blk m c t k l ⟨_, pt t l⟩ rfl, col_blk m c t k l ⟨_, pt t l⟩ rfl]
  rfl

/-- The second output array after the last grid point: the results in one row. -/
theorem final3 (c : Dev nD) : (dats m 0 c).arrAt 3 (cfgs 0).N
    = REF3 (m ((c : Thread nD τ).loc main_arg0)) (m ((c : Thread nD τ).loc main_arg1)) := by
  refine (dats m 0 c).arrAt_eq_of_covers 3 _ (by decide +kernel) fun t _ y => ?_
  blk_simp
  rw [after0_3, logj_at]
  obtain ⟨k, l, rfl⟩ : ∃ k l, y = ix2 k l := ⟨y 0, y 1, by pointwise⟩
  have hb : ((win0_3.blk t).view.emb (ix2 k l)) = ix2 k ⟨t.val * 8192 + l.val, pt t l⟩ := by
    blk_ext [idx t]
  rw [hb]
  show (∑ k' : Fin 16, Ideal.log (klerp (iblk m c 0 t (ix2 k' l)) (col (iblk m c 1 t) (ix2 k' l))) : EReal)
    = ∑ k' : Fin 16, Ideal.log (klerp (m ((c : Thread nD τ).loc main_arg0) (ix2 ⟨_, pt t l⟩ k'))
        (column (m ((c : Thread nD τ).loc main_arg1)) ⟨_, pt t l⟩ k'))
  refine Finset.sum_congr rfl fun k' _ => ?_
  rw [x_blk m c t k' l ⟨_, pt t l⟩ rfl, col_blk m c t k' l ⟨_, pt t l⟩ rfl]

/-- The kernel run from any memory: its two results as functions of its arguments, which end unchanged. -/
theorem run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c : Thread nD τ).loc main_v3) = OUT (m ((c : Thread nD τ).loc main_arg0)) (m ((c : Thread nD τ).loc main_arg1))
      ∧ r.2.mem ((c : Thread nD τ).loc main_v4) = LOGJ (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) := by
  run_from run_main m g
  · unfold Pipeline.afterTail₀
    simp only [hostOps1, List.flatten_cons, List.flatten_nil, List.append_nil, List.cons_append, List.nil_append]
    after_results
    rw [show Pipeline.withArrays (cfgs 0).spec c (V0 m c) (fun w => (dats m 0 c).arrAt w (cfgs 0).N)
        (Proc.tc.devRef main_v2_0) = _ from Pipeline.withArrays_arr spec0 arr_inj c (V0 m c) _ 2, final2]
    funext i
    obtain ⟨b, k, rfl⟩ : ∃ b k, i = ix2 b k := ⟨i 0, i 1, by pointwise⟩
    unfold OUT REF2
    pointwise
  · unfold Pipeline.afterTail₀
    simp only [hostOps1, List.flatten_cons, List.flatten_nil, List.append_nil, List.cons_append, List.nil_append]
    after_results
    rw [show Pipeline.withArrays (cfgs 0).spec c (V0 m c) (fun w => (dats m 0 c).arrAt w (cfgs 0).N)
        (Proc.tc.devRef main_v2_1) = _ from Pipeline.withArrays_arr spec0 arr_inj c (V0 m c) _ 3, final3]
    funext i
    obtain ⟨b, k, rfl⟩ : ∃ b k, i = ix2 b k := ⟨i 0, i 1, by pointwise⟩
    unfold LOGJ REF3
    pointwise
  · exact W_main_arg0 m _ c
  · exact W_main_arg1 m _ c

end Cert.KernelIdeal.Arrays

end
-- ==== Proof.Scan.lean ====
/- Operations along the last axis of a rank-3 array, read at an index: a running sum, an array put behind one column,
   and the position of the first largest entry. -/
module

public import Idealize.ShloMosaic.PureOps.Ideal
public import Idealize.ShloMosaic.PureOps.Ideal.Laws
public import Idealize.ShloMosaic.Lib.ValueIdxCore
public import Idealize.ShloMosaic.Lib.Pipeline.Value
public import Idealize.ShloMosaic.Lib.Pipeline.ValueKit

@[expose] public section

noncomputable section

namespace Cert.Scan

open Idealize.ShloMosaic

variable {α : Type} {A B N M : ℕ}

/-! ## An array behind one column -/

/-- The first column is the one put in front. -/
theorem cat_zero (e : (⟨3, ![A, B, 1]⟩ : Shape).Idx → α) (x : (⟨3, ![A, B, N]⟩ : Shape).Idx → α)
    (h : Shape.Concatenates [(⟨3, ![A, B, 1]⟩ : Shape), ⟨3, ![A, B, N]⟩] ⟨3, ![A, B, M]⟩ 2) (a : Fin A) (b : Fin B) (h0 : 0 < M) :
    concatenate (⟨3, ![A, B, M]⟩ : Shape) 2 [⟨⟨3, ![A, B, 1]⟩, e⟩, ⟨⟨3, ![A, B, N]⟩, x⟩] h (ValueIdx.ix3 a b ⟨0, h0⟩)
      = e (ValueIdx.ix3 a b 0) :=
  concatenate_pair_apply_left (s₁ := ⟨3, ![A, B, 1]⟩) 2 e x h _ rfl _ fun c => match c with
    | ⟨0, _⟩ => rfl | ⟨1, _⟩ => rfl | ⟨2, _⟩ => rfl

/-- Every later column is the array's one column earlier. -/
theorem cat_succ (e : (⟨3, ![A, B, 1]⟩ : Shape).Idx → α) (x : (⟨3, ![A, B, N]⟩ : Shape).Idx → α)
    (h : Shape.Concatenates [(⟨3, ![A, B, 1]⟩ : Shape), ⟨3, ![A, B, N]⟩] ⟨3, ![A, B, M]⟩ 2) (a : Fin A) (b : Fin B) (n : ℕ)
    (hn : n < N) (hn' : n + 1 < M) :
    concatenate (⟨3, ![A, B, M]⟩ : Shape) 2 [⟨⟨3, ![A, B, 1]⟩, e⟩, ⟨⟨3, ![A, B, N]⟩, x⟩] h (ValueIdx.ix3 a b ⟨n + 1, hn'⟩)
      = x (ValueIdx.ix3 a b ⟨n, hn⟩) :=
  concatenate_pair_apply_right (s₁ := ⟨3, ![A, B, 1]⟩) (s₂ := ⟨3, ![A, B, N]⟩) 2 e x h _ rfl rfl _ (fun c hc => by
    match c with
    | ⟨0, _⟩ => rfl
    | ⟨1, _⟩ => rfl
    | ⟨2, _⟩ => exact absurd rfl hc) rfl

/-! ## The running sum -/

/-- A left fold of additions is the start plus the sum of the list. -/
theorem foldl_add {ι : Type} (l : List ι) (g : ι → EReal) (v : EReal) : l.foldl (fun r n => r + g n) v = v + (l.map g).sum := by
  induction l generalizing v with
  | nil => simp
  | cons i l ih => rw [List.foldl_cons, ih, List.map_cons, List.sum_cons, add_assoc]

/-- A sum over the window's positions is a sum over its last axis. -/
theorem sum_window (g : (⟨3, ![1, 1, N]⟩ : Shape).Idx → EReal) :
    ∑ i, g i = ∑ k : Fin N, g (ValueIdx.ix3 0 0 k) := by
  refine (Finset.sum_bij' (fun k _ => ValueIdx.ix3 0 0 k) (fun i _ => i 2) ?_ ?_ ?_ ?_ ?_).symm
  · intro _ _; exact Finset.mem_univ _
  · intro _ _; exact Finset.mem_univ _
  · intro k _; rfl
  · intro i _
    funext c
    match c with
    | ⟨0, _⟩ => exact Fin.ext (by have : (i 0).val < 1 := (i 0).isLt; show 0 = (i 0).val; omega)
    | ⟨1, _⟩ => exact Fin.ext (by have : (i 1).val < 1 := (i 1).isLt; show 0 = (i 1).val; omega)
    | ⟨2, _⟩ => rfl
  · intro _ _; rfl

/-- Adding up, in order, the values at a window's positions. -/
theorem foldl_window (g : (⟨3, ![1, 1, N]⟩ : Shape).Idx → EReal) (v : EReal) :
    (List.finRange (⟨3, ![1, 1, N]⟩ : Shape).numel).foldl (fun r n => r + g ((⟨3, ![1, 1, N]⟩ : Shape).rowMajor.symm n)) v
      = v + ∑ k : Fin N, g (ValueIdx.ix3 0 0 k) := by
  rw [foldl_add _ (fun n => g ((⟨3, ![1, 1, N]⟩ : Shape).rowMajor.symm n)), ← List.ofFn_eq_map, List.sum_ofFn,
    Equiv.sum_comp (⟨3, ![1, 1, N]⟩ : Shape).rowMajor.symm g, sum_window]

/-- The terms of a window of `M + 1` that ends at `n` are the terms up to `n`. -/
theorem sum_tail (f : ℕ → EReal) (n : ℕ) (hn : n ≤ M) :
    ∑ k : Fin (M + 1), (if M ≤ n + k.val then f (n + k.val - M) else 0) = ∑ i ∈ Finset.range (n + 1), f i := by
  rw [Fin.sum_univ_eq_sum_range (fun k => if M ≤ n + k then f (n + k - M) else 0) (M + 1), ← Finset.sum_filter]
  refine Finset.sum_bij' (fun k _ => n + k - M) (fun i _ => i + M - n) ?_ ?_ ?_ ?_ ?_
  all_goals intro i hi
  all_goals simp only [Finset.mem_filter, Finset.mem_range] at hi ⊢
  all_goals omega

/-- The running sum at position `n`: the sum of the entries up to `n`. -/
theorem cumsum_last (x : FVec Ideal ⟨3, ![A, B, M + 1]⟩ .f32) (init : FVec Ideal ⟨0, ![]⟩ .f32) (hi : ∀ i, init i = 0)
    (h : (⟨3, ![A, B, M + 1]⟩ : Shape).ReduceWindows ![1, 1, M + 1] ![1, 1, 1] ![0, 0, M] ![0, 0, 0] ⟨3, ![A, B, M + 1]⟩)
    (hu : 0 < (⟨0, ![]⟩ : Shape).numel) (f : ℕ → EReal) (a : Fin A) (b : Fin B)
    (hf : ∀ k : Fin (M + 1), x (ValueIdx.ix3 a b k) = f k.val) (n : Fin (M + 1)) :
    Host.reduceWindowAdd ![1, 1, M + 1] ![1, 1, 1] ![0, 0, M] ![0, 0, 0] x init h hu (ValueIdx.ix3 a b n)
      = ∑ i ∈ Finset.range (n.val + 1), f i := by
  show Ideal.hostReduceWindowAdd _ _ _ _ h x (init _) _ = _
  rw [hi]
  unfold Ideal.hostReduceWindowAdd Host.reduceWindow
  dsimp only
  refine (foldl_window (N := M + 1) (fun i => @dite EReal (∀ c : Fin 3, ![0, 0, M] c ≤ (ValueIdx.ix3 a b n c).val * ![1, 1, 1] c + (i c).val
      ∧ (ValueIdx.ix3 a b n c).val * ![1, 1, 1] c + (i c).val - ![0, 0, M] c < ![A, B, M + 1] c) (Nat.decidableForallFin _)
    (fun hin => x (fun c => ⟨_, (hin c).2⟩)) (fun _ => 0)) 0).trans ?_
  rw [zero_add, ← sum_tail f n.val (Nat.lt_succ_iff.mp n.isLt)]
  refine Finset.sum_congr rfl fun k _ => ?_
  have ha := a.isLt
  have hb := b.isLt
  have hn := n.isLt
  have hk := k.isLt
  by_cases hM : M ≤ n.val + k.val
  · rw [if_pos hM, dif_pos (fun c => by
      match c with
      | ⟨0, _⟩ => show 0 ≤ a.val * 1 + 0 ∧ a.val * 1 + 0 - 0 < A; omega
      | ⟨1, _⟩ => show 0 ≤ b.val * 1 + 0 ∧ b.val * 1 + 0 - 0 < B; omega
      | ⟨2, _⟩ => show M ≤ n.val * 1 + k.val ∧ n.val * 1 + k.val - M < M + 1; omega)]
    refine Eq.trans (congrArg x (funext fun c => Fin.ext ?_)) (hf ⟨n.val + k.val - M, by omega⟩)
    match c with
    | ⟨0, _⟩ => show a.val * 1 + 0 - 0 = a.val; omega
    | ⟨1, _⟩ => show b.val * 1 + 0 - 0 = b.val; omega
    | ⟨2, _⟩ => show n.val * 1 + k.val - M = n.val + k.val - M; omega
  · rw [if_neg hM, dif_neg fun hin => hM (by
      have h2 : M ≤ n.val * 1 + k.val := (hin 2).1
      omega)]

/-! ## The position of the first largest entry -/

/-- The index `(a, b)` with `k` put back on the last axis. -/
theorem lift_last (h : (⟨3, ![A, B, N]⟩ : Shape).Reduces [2] ⟨2, ![A, B]⟩) (a : Fin A) (b : Fin B)
    (k : Fin ((⟨3, ![A, B, N]⟩ : Shape).size 2)) : h.lift (ValueIdx.ix2 a b) k = ValueIdx.ix3 a b (⟨k.val, k.isLt⟩ : Fin N) := by
  funext c
  apply Fin.ext
  fin_cases c <;> rfl

/-- The maximum over the last axis is the entry no other exceeds. -/
theorem max_last (y : FVec Ideal ⟨3, ![A, B, N]⟩ .f32) (init : FVec Ideal ⟨0, ![]⟩ .f32) (hi : ∀ i, init i = ⊥)
    (h' : (⟨3, ![A, B, N]⟩ : Shape).ReducesTo [2] ⟨2, ![A, B]⟩) (h : (⟨3, ![A, B, N]⟩ : Shape).Reduces [2] ⟨2, ![A, B]⟩)
    (hu : 0 < (⟨0, ![]⟩ : Shape).numel) (a : Fin A) (b : Fin B) (m : Fin N)
    (hm : ∀ n : Fin N, y (ValueIdx.ix3 a b n) ≤ y (ValueIdx.ix3 a b m)) :
    Host.reduce FloatOps.maximumf y init h' hu (ValueIdx.ix2 a b) = y (ValueIdx.ix3 a b m) := by
  rw [Host.reduce_eq_fold_single FloatOps.maximumf y init h' h hu, hi]
  show Finset.fold (max : EReal → EReal → EReal) ⊥ (y ∘ h.lift (ValueIdx.ix2 a b)) Finset.univ = _
  refine le_antisymm (Finset.fold_max_le _ |>.mpr ⟨bot_le, fun k _ => ?_⟩) (Finset.le_fold_max _ |>.mpr (Or.inr ⟨m, Finset.mem_univ _, ?_⟩))
  · show y (h.lift (ValueIdx.ix2 a b) k) ≤ _
    rw [lift_last]
    exact hm _
  · exact (congrArg y (lift_last h a b m)).ge

/-- The signed minimum of words, as an integer. -/
theorem minsi_toInt (x y : BitVec 32) : (IntOp.minsi x y).toInt = min x.toInt y.toInt := by
  unfold IntOp.minsi
  split
  · next h => exact (min_eq_left (by rw [BitVec.slt_iff_toInt_lt] at h; omega)).symm
  · next h => exact (min_eq_right (by rw [BitVec.slt_iff_toInt_lt] at h; omega)).symm

/-- The signed minimum over the last axis, as an integer. -/
theorem min_last (p : IVec ⟨3, ![A, B, N]⟩ 32) (init : IVec ⟨0, ![]⟩ 32) (v : ℤ) (hi : ∀ i, v ≤ (init i).toInt)
    (h' : (⟨3, ![A, B, N]⟩ : Shape).ReducesTo [2] ⟨2, ![A, B]⟩) (h : (⟨3, ![A, B, N]⟩ : Shape).Reduces [2] ⟨2, ![A, B]⟩)
    (hu : 0 < (⟨0, ![]⟩ : Shape).numel) (a : Fin A) (b : Fin B) (m : Fin N) (hv : (p (ValueIdx.ix3 a b m)).toInt = v)
    (hm : ∀ n : Fin N, v ≤ (p (ValueIdx.ix3 a b n)).toInt) :
    (Host.reduce IntOp.minsi p init h' hu (ValueIdx.ix2 a b)).toInt = v := by
  rw [Host.reduce_eq_fold_single IntOp.minsi p init h' h hu, ← Finset.fold_hom (op' := min) minsi_toInt]
  refine le_antisymm (Finset.fold_min_le _ |>.mpr (Or.inr ⟨m, Finset.mem_univ _, ?_⟩)) (Finset.le_fold_min _ |>.mpr ⟨hi _, fun k _ => ?_⟩)
  · exact (congrArg (fun i => (p i).toInt) (lift_last h a b m)).le.trans hv.le
  · show _ ≤ (p (h.lift (ValueIdx.ix2 a b) k)).toInt
    rw [lift_last]
    exact hm _

end Cert.Scan

end
-- ==== Proof.Math.lean ====
/- The arithmetic both programs share, over the reals: the widths `w` and heights `e` before normalization, the bin `m`
   an element lies in, and the kernel's value at the element in terms of them. -/
module

public import proofs.«01_k».proof.Proof.Spec
public import Idealize.ShloMosaic.PureOps.Ideal.Laws

@[expose] public section

noncomputable section

namespace Cert.Flow

open Idealize.ShloMosaic

/-! ## The real quantities -/

/-- The sum of the first `n` widths. -/
def sw (w : ℕ → ℝ) (n : ℕ) : ℝ := ∑ i ∈ Finset.range n, w i

/-- The total width. -/
def tot (w : ℕ → ℝ) : ℝ := sw w 21

/-- The area under the unnormalized heights over the normalized widths. -/
def area (w e : ℕ → ℝ) : ℝ := ∑ i ∈ Finset.range 21, (e i + e (i + 1)) / 2 * (w i / tot w)

/-- The normalized width of bin `i`. -/
def nw (w : ℕ → ℝ) (i : ℕ) : ℝ := w i / tot w

/-- The normalized left edge of bin `n`. -/
def edge (w : ℕ → ℝ) (n : ℕ) : ℝ := sw w n / tot w

/-- The normalized height at knot `i`. -/
def nv (w e : ℕ → ℝ) (i : ℕ) : ℝ := e i / area w e

/-- The area to the left of bin `n`. -/
def left (w e : ℕ → ℝ) (n : ℕ) : ℝ := ∑ i ∈ Finset.range n, (nv w e i + nv w e (i + 1)) / 2 * nw w i

/-- A column of logits whose exponentials are the positive reals `w` and `e`, the first bin being wider than the
    reference's threshold. -/
structure Good (a : ℕ → EReal) (w e : ℕ → ℝ) : Prop where
  hw : ∀ i < 21, W a i = w i
  he : ∀ i < 22, E a i = e i
  wpos : ∀ i, 0 < w i
  epos : ∀ i, 0 < e i
  first : (2 : ℝ)⁻¹ ^ 23 < nw w 0

variable {a : ℕ → EReal} {w e : ℕ → ℝ}

/-- One more width. -/
theorem sw_succ (n : ℕ) : sw w (n + 1) = sw w n + w n := Finset.sum_range_succ _ _

/-- The running sum of positive widths does not decrease. -/
theorem sw_mono (hw : ∀ i, 0 < w i) {i j : ℕ} (h : i ≤ j) : sw w i ≤ sw w j :=
  Finset.sum_le_sum_of_subset_of_nonneg (Finset.range_subset_range.mpr h) fun k _ _ => (hw k).le

/-- It is positive from the first width on. -/
theorem sw_pos (hw : ∀ i, 0 < w i) (n : ℕ) : 0 < sw w (n + 1) :=
  Finset.sum_pos (fun i _ => hw i) ⟨0, by simp⟩

/-- It increases strictly. -/
theorem sw_strict (hw : ∀ i, 0 < w i) {i j : ℕ} (h : i < j) : sw w i < sw w j :=
  lt_of_lt_of_le (by rw [sw_succ]; linarith [hw i]) (sw_mono hw (Nat.succ_le_of_lt h))

/-- The total width is positive. -/
theorem tot_pos (hw : ∀ i, 0 < w i) : 0 < tot w := sw_pos hw 20

/-- The area is the sum of the trapezoids over twice the total width. -/
theorem area_eq (w e : ℕ → ℝ) : area w e = (∑ i ∈ Finset.range 21, (e i + e (i + 1)) * w i) / (2 * tot w) := by
  unfold area
  rw [Finset.sum_div]
  refine Finset.sum_congr rfl fun i _ => ?_
  rw [div_mul_div_comm]

/-- The area is positive. -/
theorem area_pos (hw : ∀ i, 0 < w i) (he : ∀ i, 0 < e i) : 0 < area w e :=
  Finset.sum_pos (fun i _ => mul_pos (half_pos (add_pos (he i) (he _))) (div_pos (hw i) (tot_pos hw))) ⟨0, by simp⟩

/-! ## The bin -/

/-- The bins whose right edge is at most `x` are an initial segment. -/
theorem exists_cut (q : ℕ → Prop) (hq : ∀ i j, i ≤ j → q j → q i) (N : ℕ) : ∃ m ≤ N, ∀ i < N, q i ↔ i < m := by
  induction N with
  | zero => exact ⟨0, le_rfl, fun i hi => absurd hi (Nat.not_lt_zero _)⟩
  | succ N ih =>
    obtain ⟨m, hm, h⟩ := ih
    by_cases hN : q N
    · exact ⟨N + 1, le_rfl, fun i hi => ⟨fun _ => hi, fun _ => hq i N (by omega) hN⟩⟩
    · refine ⟨m, by omega, fun i hi => ?_⟩
      rcases Nat.lt_succ_iff_lt_or_eq.mp hi with h' | rfl
      · exact h i h'
      · exact ⟨fun h' => absurd h' hN, fun h' => absurd h' (by omega)⟩

/-- A right edge is at most `x` exactly when, scaled by the total width, it is at most `x` so scaled. -/
theorem scaled_le {c t : ℝ} (ht : 0 < t) (x : EReal) : (c : EReal) ≤ x * (t : EReal) ↔ ((c / t : ℝ) : EReal) ≤ x := by
  induction x with
  | bot => rw [EReal.bot_mul_coe_of_pos ht]; simp
  | top => rw [EReal.top_mul_coe_of_pos ht]; simp
  | coe x =>
    rw [← EReal.coe_mul, EReal.coe_le_coe_iff, EReal.coe_le_coe_iff]
    exact (div_le_iff₀ ht).symm

/-- `m` counts the bins whose right edge is at most `x`. -/
def IsCut (w : ℕ → ℝ) (x : EReal) (m : ℕ) : Prop := m ≤ 21 ∧ ∀ i < 21, ((edge w (i + 1) : ℝ) : EReal) ≤ x ↔ i < m

/-- Every `x` falls somewhere among the edges. -/
theorem cut_exists (hw : ∀ i, 0 < w i) (x : EReal) : ∃ m, IsCut w x m :=
  exists_cut (fun i => ((edge w (i + 1) : ℝ) : EReal) ≤ x) (fun i j h hj => le_trans (EReal.coe_le_coe_iff.mpr
    ((div_le_div_iff_of_pos_right (tot_pos hw)).mpr (sw_mono hw (by omega)))) hj) 21

/-! ## The kernel's sums and chains -/

/-- The kernel's running sum, over a good column. -/
theorem C_eq (G : Good a w e) : ∀ n < 21, C a n = sw w (n + 1)
  | 0, h => by rw [sw_succ]; simp [C, sw, G.hw 0 h]
  | n + 1, h => by rw [sw_succ, EReal.coe_add, ← C_eq G n (by omega), ← G.hw _ h]; rfl

/-- The kernel's left edge, over a good column. -/
theorem L_eq (G : Good a w e) : ∀ n < 21, L a n = sw w n
  | 0, _ => by simp [L, sw]
  | n + 1, h => C_eq G n (by omega)

/-- The kernel's trapezoid, over a good column. -/
theorem trap_eq (G : Good a w e) (n : ℕ) (h : n < 21) : trap a n = (((e n + e (n + 1)) * w n : ℝ) : EReal) := by
  unfold trap
  rw [G.hw n h, G.he n (by omega), G.he (n + 1) (by omega)]
  norm_cast

/-- The kernel's sum of trapezoids, over a good column. -/
theorem trapSum_eq (G : Good a w e) : ∀ n < 21, trapSum a n = ((∑ i ∈ Finset.range (n + 1), (e i + e (i + 1)) * w i : ℝ) : EReal)
  | 0, h => by simp [trapSum, trap_eq G 0 h]
  | n + 1, h => by rw [Finset.sum_range_succ, EReal.coe_add, ← trapSum_eq G n (by omega), ← trap_eq G _ h]; rfl

/-- The kernel's test of bin `i`. -/
theorem test_eq (G : Good a w e) {x : EReal} {m : ℕ} (hm : IsCut w x m) (i : ℕ) (hi : i < 21) :
    Ideal.cmp .ole (C a i) (x * C a 20) = BitVec.ofBool (decide (i < m)) := by
  rw [C_eq G i hi, C_eq G 20 (by omega)]
  show BitVec.ofBool (decide _) = _
  congr 1
  rw [decide_eq_decide]
  exact (scaled_le (tot_pos G.wpos) x).trans (hm.2 i hi)

/-- A select on a decided proposition is an `if`. -/
theorem select_ofBool {α : Type} (p : Prop) [Decidable p] (u v : α) :
    Scalar.select (BitVec.ofBool (decide p)) u v = if p then u else v := by
  by_cases h : p <;> simp [h, Scalar.select]

/-- The chain of selects picks the value at the bin. -/
theorem pick_eq (G : Good a w e) {x : EReal} {m : ℕ} (hm : IsCut w x m) (f : ℕ → EReal) :
    ∀ n ≤ 20, pick x a f n = f (min m n)
  | 0, _ => by simp [pick]
  | n + 1, h => by
    unfold pick
    rw [test_eq G hm n (by omega), select_ofBool, pick_eq G hm f n (by omega)]
    split
    · rw [min_eq_right (by omega)]
    · rw [min_eq_left (by omega), min_eq_left (by omega)]

/-- The chain of masked sums is the sum over the bins before the bin. -/
theorem gain_eq (G : Good a w e) {x : EReal} {m : ℕ} (hm : IsCut w x m) (f : ℕ → EReal) :
    ∀ n ≤ 20, gain x a f n = ∑ i ∈ Finset.range (min m n), f i
  | 0, _ => by simp [gain]
  | n + 1, h => by
    unfold gain
    rw [test_eq G hm n (by omega), select_ofBool, gain_eq G hm f n (by omega)]
    split
    · rw [min_eq_right (by omega), min_eq_right (by omega), Finset.sum_range_succ]
    · rw [min_eq_left (by omega), min_eq_left (by omega), add_zero]

end Cert.Flow

end
-- ==== Proof.Equation.lean ====
/- The kernel's values at one element in terms of the normalized widths and heights of the element's bin. -/
module

public import proofs.«01_k».proof.Proof.Math
public import Mathlib.Tactic.FieldSimp
public import Mathlib.Tactic.Ring
public import Mathlib.Tactic.NormNum

@[expose] public section

noncomputable section

namespace Cert.Flow

open Idealize.ShloMosaic

/-- The word of the literal 2. -/
theorem two_bits : Ideal.ofBits .f32 0x40000000#32 = ((2 : ℝ) : EReal) := by
  simp [Ideal.ofBits, Ideal.ieee, -EReal.coe_mul]; norm_num

/-- The word of the literal 1/2. -/
theorem half_bits : Ideal.ofBits .f32 0x3F000000#32 = ((1 / 2 : ℝ) : EReal) := by
  simp [Ideal.ofBits, Ideal.ieee, -EReal.coe_mul]; norm_num

/-- The word of the float epsilon. -/
theorem eps_bits : Ideal.ofBits .f32 0x34000000#32 = (((2 : ℝ)⁻¹ ^ 23 : ℝ) : EReal) := by
  simp [Ideal.ofBits, Ideal.ieee, -EReal.coe_mul]; norm_num

/-- The word of the literal 1e-6: the rational it stands for. -/
theorem clip_bits : Ideal.ofBits .f32 0x358637BD#32 = ((8796093 / 2 ^ 43 : ℝ) : EReal) := by
  simp [Ideal.ofBits, Ideal.ieee, -EReal.coe_mul]; norm_num

/-- Division of reals, the divisor not zero, is the real quotient. -/
theorem div_real (r : ℝ) {s : ℝ} (h : s ≠ 0) : Ideal.div (r : EReal) (s : EReal) = ((r / s : ℝ) : EReal) := by
  rw [Ideal.div_coe h, ← EReal.coe_mul, mul_one_div]

/-- Clipping to `[0, 1]` gives a real number. -/
theorem clip_real (y : EReal) : ∃ r : ℝ, min 1 (max 0 y) = (r : EReal) := by
  refine ⟨(min 1 (max 0 y)).toReal, (EReal.coe_toReal ?_ ?_).symm⟩
  · exact ne_of_lt (lt_of_le_of_lt (min_le_left _ _) (EReal.coe_lt_top 1))
  · exact ne_of_gt (lt_of_lt_of_le (EReal.bot_lt_coe 0) (le_min zero_le_one (le_max_left _ _)))

variable {a : ℕ → EReal} {w e : ℕ → ℝ}

/-- The element's place in its bin, clipped to `[0, 1]`. -/
def place (w : ℕ → ℝ) (x : EReal) (m : ℕ) : EReal :=
  min 1 (max 0 (Ideal.div (x - (edge w m : ℝ)) (nw w m : ℝ)))

/-- The reciprocal of the total width is real. -/
theorem invW_eq (G : Good a w e) : invW a = ((1 / tot w : ℝ) : EReal) := by
  unfold invW
  rw [C_eq G 20 (by omega)]
  exact div_real 1 (tot_pos G.wpos).ne'

/-- The kernel's scale of the heights is the reciprocal of the area. -/
theorem invD_eq (G : Good a w e) : invD a = ((1 / area w e : ℝ) : EReal) := by
  have hs : 0 < ∑ i ∈ Finset.range 21, (e i + e (i + 1)) * w i :=
    Finset.sum_pos (fun i _ => mul_pos (add_pos (G.epos i) (G.epos _)) (G.wpos i)) ⟨0, by simp⟩
  unfold invD
  rw [C_eq G 20 (by omega), trapSum_eq G 20 (by omega), two_bits, ← EReal.coe_mul, div_real _ hs.ne', area_eq, one_div_div]
  rfl

section
variable (G : Good a w e) {x : EReal} {m : ℕ} (hm : IsCut w x m)
include G hm

/-- The kernel's bin width is the bin's normalized width. -/
theorem binW_eq : binW x a = (nw w (min m 20) : ℝ) := by
  unfold binW
  rw [pick_eq G hm _ 20 le_rfl, invW_eq G, G.hw _ (by omega), ← EReal.coe_mul, mul_one_div]
  rfl

/-- The kernel's position is the place of `x` in its bin. -/
theorem alpha_eq : alpha x a = place w x (min m 20) := by
  unfold alpha
  rw [pick_eq G hm _ 20 le_rfl, invW_eq G, L_eq G _ (by omega), binW_eq G hm, ← EReal.coe_mul, mul_one_div]
  rfl

/-- The kernel's left height is the bin's normalized height. -/
theorem vAt_eq : vAt x a = (nv w e (min m 20) : ℝ) := by
  unfold vAt
  rw [pick_eq G hm _ 20 le_rfl, invD_eq G, G.he _ (by omega), ← EReal.coe_mul, mul_one_div]
  rfl

/-- The kernel's rise is the difference of the normalized heights at the bin's two knots. -/
theorem dv_eq : dv x a = ((nv w e (min m 20 + 1) - nv w e (min m 20) : ℝ) : EReal) := by
  unfold dv
  rw [pick_eq G hm _ 20 le_rfl, pick_eq G hm _ 20 le_rfl, invD_eq G]
  unfold E1
  rw [G.he _ (by omega), G.he _ (by omega), ← EReal.coe_sub, ← EReal.coe_mul, mul_one_div, sub_div]
  rfl

/-- The kernel's accumulated trapezoids, scaled, are the area to the left of the bin. -/
theorem gain_area : gain x a (trap a) 20 * (Ideal.ofBits .f32 0x3F000000#32 * invW a * invD a) = (left w e (min m 20) : ℝ) := by
  have hs : ∑ i ∈ Finset.range (min m 20), trap a i
      = ((∑ i ∈ Finset.range (min m 20), (e i + e (i + 1)) * w i : ℝ) : EReal) := by
    have : ∀ n ≤ 20, ∑ i ∈ Finset.range n, trap a i = ((∑ i ∈ Finset.range n, (e i + e (i + 1)) * w i : ℝ) : EReal) := by
      intro n hn
      induction n with
      | zero => simp
      | succ n ih => rw [Finset.sum_range_succ, Finset.sum_range_succ, EReal.coe_add, ih (by omega), trap_eq G n (by omega)]
    exact this _ (by omega)
  rw [gain_eq G hm _ 20 le_rfl, hs, half_bits, invW_eq G, invD_eq G, ← EReal.coe_mul, ← EReal.coe_mul, ← EReal.coe_mul]
  congr 1
  unfold left
  rw [Finset.sum_mul]
  refine Finset.sum_congr rfl fun i _ => ?_
  unfold nv nw
  have h1 := (tot_pos G.wpos).ne'
  have h2 := (area_pos G.wpos G.epos).ne'
  field_simp

/-- The kernel's second value at an element: the height at its place. -/
theorem klerp_eq : klerp x a = (nv w e (min m 20) : ℝ)
    + place w x (min m 20) * ((nv w e (min m 20 + 1) : ℝ) - (nv w e (min m 20) : ℝ)) := by
  unfold klerp
  rw [vAt_eq G hm, alpha_eq G hm, dv_eq G hm, EReal.coe_sub]

/-- The kernel's first value at an element: the area up to its place, clipped. -/
theorem kout_eq : kout x a = min (Ideal.ofBits .f32 0x3F7FFFFE#32) (max (Ideal.ofBits .f32 0x34000000#32)
    (Ideal.div (place w x (min m 20) * place w x (min m 20)) (Ideal.ofBits .f32 0x40000000#32)
        * (((nv w e (min m 20 + 1) : ℝ) - (nv w e (min m 20) : ℝ)) * (nw w (min m 20) : ℝ))
      + place w x (min m 20) * (nv w e (min m 20) : ℝ) * (nw w (min m 20) : ℝ) + (left w e (min m 20) : ℝ))) := by
  unfold kout
  rw [gain_area G hm, vAt_eq G hm, alpha_eq G hm, dv_eq G hm, binW_eq G hm, two_bits, half_bits]
  obtain ⟨r, hr⟩ : ∃ r : ℝ, place w x (min m 20) = (r : EReal) := clip_real _
  rw [hr, ← EReal.coe_mul r r, div_real _ two_ne_zero]
  congr 2
  norm_cast
  ring

end

/-! ## The reference's test of the bin -/

/-- The entries among which the reference looks for the largest: the threshold, then each right edge that is at most
    `x`, a zero in place of each that is not. -/
def cand (w : ℕ → ℝ) (m : ℕ) : ℕ → ℝ
  | 0 => (2 : ℝ)⁻¹ ^ 23
  | i + 1 => (if i < m then 1 else 0) * edge w (i + 1)

/-- The largest entry is the `m`-th, and no other is as large. -/
theorem cand_lt (G : Good a w e) {m : ℕ} (n : ℕ) (h : n ≠ m) : cand w m n < cand w m m := by
  have ht := tot_pos G.wpos
  have hpos : (0 : ℝ) < (2 : ℝ)⁻¹ ^ 23 := by positivity
  have h1 : (2 : ℝ)⁻¹ ^ 23 < edge w 1 := by
    have h0 := G.first
    unfold nw at h0
    unfold edge
    simpa [sw] using h0
  have hedge : ∀ k, edge w 1 ≤ edge w (k + 1) := fun k =>
    (div_le_div_iff_of_pos_right ht).mpr (sw_mono G.wpos (by omega))
  rcases m with _ | m
  · rcases n with _ | n
    · exact absurd rfl h
    · simp [cand]
  · have hm : cand w (m + 1) (m + 1) = edge w (m + 1) := by simp [cand]
    rw [hm]
    rcases n with _ | n
    · exact h1.trans_le (hedge m)
    · show (if n < m + 1 then (1 : ℝ) else 0) * edge w (n + 1) < _
      split
      · rw [one_mul]
        exact (div_lt_div_iff_of_pos_right ht).mpr (sw_strict G.wpos (by omega))
      · rw [zero_mul]
        exact (hpos.trans h1).trans_le (hedge m)

end Cert.Flow

end
-- ==== Proof.Clear.lean ====
/- A column of logits at which the reference's three lower clips change nothing has finite positive widths and heights. -/
module

public import proofs.«01_k».proof.Proof.Equation

@[expose] public section

noncomputable section

namespace Cert.Flow

open Idealize.ShloMosaic

/-- The value the reference clips at. -/
def clip : EReal := Ideal.ofBits .f32 0x358637BD#32

/-- The value clipped at, as a real. -/
theorem clip_eq : clip = ((8796093 / 2 ^ 43 : ℝ) : EReal) := clip_bits

/-- It is positive. -/
theorem clip_pos : 0 < clip := by
  rw [clip_eq]
  exact EReal.coe_pos.mpr (by positivity)

/-- A good column whose widths, normalized widths and normalized heights are none of them below the clip. -/
structure Clear (a : ℕ → EReal) (w e : ℕ → ℝ) : Prop extends Good a w e where
  wlo : ∀ i < 21, clip ≤ (w i : EReal)
  nwlo : ∀ i < 21, clip ≤ (nw w i : EReal)
  nvlo : ∀ i < 22, clip ≤ (nv w e i : EReal)

/-- An exponential is nonnegative. -/
theorem exp_nonneg (y : EReal) : 0 ≤ Ideal.exp y := by
  induction y with
  | bot => exact le_rfl
  | top => exact le_top
  | coe r => exact EReal.coe_nonneg.mpr (Real.exp_pos r).le

/-- Infinity over infinity is below the clip. -/
theorem top_div_top : ¬ clip ≤ Ideal.div ⊤ ⊤ := by
  rw [not_le]
  have : Ideal.div ⊤ ⊤ = 0 := by
    unfold Ideal.div
    rw [if_neg EReal.top_ne_zero, EReal.inv_top, mul_zero]
  rw [this]
  exact clip_pos

/-- A sum of nonnegative terms one of which is infinite is infinite. -/
theorem sum_top {n : ℕ} (f : Fin n → EReal) (h0 : ∀ i, 0 ≤ f i) (i : Fin n) (hi : f i = ⊤) : ∑ j, f j = ⊤ :=
  top_le_iff.mp (hi ▸ Finset.single_le_sum (fun j _ => h0 j) (Finset.mem_univ i))

/-- The total width as the reference sums it. -/
def wsum (a : ℕ → EReal) : EReal := ∑ j : Fin 21, W a j

/-- The area as the reference sums it. -/
def asum (a : ℕ → EReal) : EReal :=
  ∑ j : Fin 21, Ideal.div (E a j + E a (j + 1)) (Ideal.ofBits .f32 0x40000000#32) * Ideal.div (W a j) (wsum a)

variable {a : ℕ → EReal}

/-- The widths are positive reals when no width and no normalized width is below the clip. -/
theorem widths (h1 : ∀ i < 21, clip ≤ W a i) (h2 : ∀ i < 21, clip ≤ Ideal.div (W a i) (wsum a)) :
    ∃ w : ℕ → ℝ, (∀ i < 21, W a i = w i) ∧ ∀ i, 0 < w i := by
  have hfin : ∀ i < 21, W a i ≠ ⊤ := fun i hi ht => by
    have := h2 i hi
    rw [show wsum a = ⊤ from sum_top (fun j : Fin 21 => W a j) (fun j => exp_nonneg _) ⟨i, hi⟩ ht, ht] at this
    exact top_div_top this
  refine ⟨fun i => if i < 21 then (W a i).toReal else 1, fun i hi => ?_, fun i => ?_⟩
  · dsimp only
    rw [if_pos hi]
    exact (EReal.coe_toReal (hfin i hi) (ne_of_gt (lt_of_lt_of_le (EReal.bot_lt_coe 0) (exp_nonneg _)))).symm
  · dsimp only
    split
    · next hi => exact EReal.toReal_pos (clip_pos.trans_le (h1 i hi)) (hfin i hi)
    · exact one_pos

/-- Over real widths the total width is real. -/
theorem wsum_eq {w : ℕ → ℝ} (hw : ∀ i < 21, W a i = w i) : wsum a = (tot w : ℝ) := by
  unfold wsum tot sw
  rw [Fin.sum_univ_eq_sum_range (fun j => W a j) 21, Finset.sum_congr rfl (fun i hi => hw i (Finset.mem_range.mp hi))]
  exact (map_sum (⟨⟨((↑) : ℝ → EReal), EReal.coe_zero⟩, EReal.coe_add⟩ : ℝ →+ EReal) _ _).symm

/-- Over real widths and heights the area is real. -/
theorem asum_eq {w e : ℕ → ℝ} (hw : ∀ i < 21, W a i = w i) (wpos : ∀ i, 0 < w i) (he : ∀ i < 22, E a i = e i) :
    asum a = (area w e : ℝ) := by
  have hterm : ∀ j : Fin 21, Ideal.div (E a j + E a (j + 1)) (Ideal.ofBits .f32 0x40000000#32) * Ideal.div (W a j) (wsum a)
      = (((e j + e (j + 1)) / 2 * (w j / tot w) : ℝ) : EReal) := fun j => by
    have := j.isLt
    rw [wsum_eq hw, hw _ j.isLt, he _ (by omega), he _ (by omega), two_bits, ← EReal.coe_add, div_real _ two_ne_zero,
      div_real _ (tot_pos wpos).ne', ← EReal.coe_mul]
  unfold asum area
  rw [Finset.sum_congr rfl (fun j _ => hterm j),
    Fin.sum_univ_eq_sum_range (fun j => (((e j + e (j + 1)) / 2 * (w j / tot w) : ℝ) : EReal)) 21]
  exact (map_sum (⟨⟨((↑) : ℝ → EReal), EReal.coe_zero⟩, EReal.coe_add⟩ : ℝ →+ EReal) _ _).symm

/-- Half the sum of two heights is infinite when one of them is. -/
theorem half_top {u v : EReal} (hu : 0 ≤ u) (hv : 0 ≤ v) (h : u = ⊤ ∨ v = ⊤) :
    Ideal.div (u + v) (Ideal.ofBits .f32 0x40000000#32) = ⊤ := by
  have hs : u + v = ⊤ := by
    rcases h with rfl | rfl
    · exact EReal.top_add_of_ne_bot (ne_of_gt (lt_of_lt_of_le (EReal.bot_lt_coe 0) hv))
    · exact EReal.add_top_of_ne_bot (ne_of_gt (lt_of_lt_of_le (EReal.bot_lt_coe 0) hu))
  rw [hs, two_bits, Ideal.div_coe two_ne_zero]
  exact EReal.top_mul_coe_of_pos (by norm_num)

/-- Half the sum of two nonnegative heights is nonnegative. -/
theorem half_nonneg {u v : EReal} (hu : 0 ≤ u) (hv : 0 ≤ v) : 0 ≤ Ideal.div (u + v) (Ideal.ofBits .f32 0x40000000#32) := by
  rw [two_bits, Ideal.div_coe two_ne_zero]
  exact mul_nonneg (add_nonneg hu hv) (EReal.coe_nonneg.mpr (by norm_num))

/-- A column at which the clips change nothing is clear. -/
theorem clear_of_idle (h1 : ∀ i < 21, clip ≤ W a i) (h2 : ∀ i < 21, clip ≤ Ideal.div (W a i) (wsum a))
    (h3 : ∀ i < 22, clip ≤ Ideal.div (E a i) (asum a)) : ∃ w e, Clear a w e := by
  obtain ⟨w, hw, wpos⟩ := widths h1 h2
  have ht := tot_pos wpos
  have hnw : ∀ j : Fin 21, Ideal.div (W a j) (wsum a) = (nw w j : ℝ) := fun j => by
    rw [wsum_eq hw, hw _ j.isLt, div_real _ ht.ne']
    rfl
  have hnwpos : ∀ j, (0 : ℝ) < nw w j := fun j => div_pos (wpos j) ht
  have hE : ∀ i, 0 ≤ E a i := fun i => exp_nonneg _
  have hterm : ∀ j : Fin 21, 0 ≤ Ideal.div (E a j + E a (j + 1)) (Ideal.ofBits .f32 0x40000000#32) * Ideal.div (W a j) (wsum a) :=
    fun j => mul_nonneg (half_nonneg (hE _) (hE _)) (by rw [hnw]; exact EReal.coe_nonneg.mpr (hnwpos j).le)
  have hfin : ∀ i < 22, E a i ≠ ⊤ := fun i hi htop => by
    have hd : asum a = ⊤ := by
      have key : ∀ j : Fin 21, (E a j = ⊤ ∨ E a (j + 1) = ⊤) → asum a = ⊤ := fun j hj =>
        sum_top _ hterm j (by
          rw [half_top (hE _) (hE _) hj, hnw]
          exact EReal.top_mul_coe_of_pos (hnwpos j))
      by_cases hi' : i < 21
      · exact key ⟨i, hi'⟩ (Or.inl htop)
      · obtain rfl : i = 21 := by omega
        exact key ⟨20, by omega⟩ (Or.inr htop)
    have := h3 i hi
    rw [hd, htop] at this
    exact top_div_top this
  have hpos : ∀ i < 22, E a i ≠ 0 := fun i hi h0 => by
    have := h3 i hi
    rw [h0] at this
    refine absurd this (not_le.mpr (lt_of_le_of_lt ?_ clip_pos))
    unfold Ideal.div
    split
    · rw [if_neg (lt_irrefl _)]; exact bot_le
    · rw [zero_mul]
  let e : ℕ → ℝ := fun i => if i < 22 then (E a i).toReal else 1
  have he : ∀ i < 22, E a i = e i := fun i hi => by
    show _ = ((if i < 22 then (E a i).toReal else 1 : ℝ) : EReal)
    rw [if_pos hi]
    exact (EReal.coe_toReal (hfin i hi) (ne_of_gt (lt_of_lt_of_le (EReal.bot_lt_coe 0) (hE _)))).symm
  have epos : ∀ i, 0 < e i := fun i => by
    show 0 < (if i < 22 then (E a i).toReal else 1 : ℝ)
    split
    · next hi => exact EReal.toReal_pos (lt_of_le_of_ne (hE i) (hpos i hi).symm) (hfin i hi)
    · exact one_pos
  have hn : ∀ i < 21, clip ≤ (nw w i : EReal) := fun i hi => by
    rw [← hnw ⟨i, hi⟩]
    exact h2 i hi
  refine ⟨w, e, ⟨hw, he, wpos, epos, ?_⟩, fun i hi => ?_, hn, fun i hi => ?_⟩
  · have := hn 0 (by omega)
    rw [clip_eq, EReal.coe_le_coe_iff] at this
    exact lt_of_lt_of_le (by norm_num) this
  · rw [← hw i hi]
    exact h1 i hi
  · have := h3 i hi
    rw [asum_eq hw wpos he, he i hi, div_real _ (area_pos wpos epos).ne'] at this
    exact this

end Cert.Flow

end
-- ==== Proof.Stages.lean ====
/- The reference's stages at one index, at a column where its lower clips change nothing: the widths and heights it
   normalizes, the edges and the areas it accumulates, and the bin it selects. -/
module

public import proofs.«01_k».proof.Proof.Gen.ReferenceIdeal.Read
public import proofs.«01_k».proof.Proof.Arrays
public import proofs.«01_k».proof.Proof.Scan
public import proofs.«01_k».proof.Proof.Clear

@[expose] public section

noncomputable section

namespace Cert.ReferenceIdeal.Stages

open Cert.ReferenceIdeal Cert.ReferenceIdeal.Gen Cert.ReferenceIdeal.Read Cert.Flow Idealize.ShloMosaic
open Cert.KernelIdeal.Arrays (column)

variable {x0 : (⟨S65536x16, .f32⟩ : BufTy).Contents (Elt Ideal)} {x1 : (⟨S65536x16x43, .f32⟩ : BufTy).Contents (Elt Ideal)}
  {b : Fin 65536} {k : Fin 16} {w e : ℕ → ℝ} {m : ℕ}

/-- Indices of rank three agree when their coordinates do. -/
theorem idx3 {A B N : ℕ} (i j : (⟨3, ![A, B, N]⟩ : Shape).Idx) (h0 : (i 0).val = (j 0).val) (h1 : (i 1).val = (j 1).val)
    (h2 : (i 2).val = (j 2).val) : i = j :=
  funext fun q => Fin.ext (match q with | ⟨0, _⟩ => h0 | ⟨1, _⟩ => h1 | ⟨2, _⟩ => h2)

/-- Indices of rank two agree when their coordinates do. -/
theorem idx2 {A B : ℕ} (i j : (⟨2, ![A, B]⟩ : Shape).Idx) (h0 : (i 0).val = (j 0).val) (h1 : (i 1).val = (j 1).val) : i = j :=
  funext fun q => Fin.ext (match q with | ⟨0, _⟩ => h0 | ⟨1, _⟩ => h1)

/-- The signed maximum of words, as an integer. -/
theorem maxsi_toInt (x y : BitVec 32) : (IntOp.maxsi x y).toInt = max x.toInt y.toInt := by
  unfold IntOp.maxsi
  split
  · next h => exact (max_eq_left (by rw [BitVec.slt_iff_toInt_lt] at h; omega)).symm
  · next h => exact (max_eq_right (by rw [BitVec.slt_iff_toInt_lt] at h; omega)).symm

/-- The word of minus infinity. -/
theorem negInf_bits : Ideal.ofBits .f32 0xFF800000#32 = ⊥ := by
  simp [Ideal.ofBits, Ideal.ieee]

/-- The exponential of a width's logit. -/
theorem v2_at (n : Fin 21) : val_main_v2 (F := Ideal) x1 (ValueIdx.ix3 b k n) = W (column x1 b k) n := by
  have := n.isLt
  rw [val_main_v2_apply, val_main_v1_apply]
  unfold W column
  rw [dif_pos (show 22 + n.val < 43 by omega)]
  exact congrArg (fun i => Ideal.exp (x1 i)) (idx3 _ _ rfl rfl rfl)

/-- The exponential of a height's logit. -/
theorem v13_at (n : Fin 22) : val_main_v13 (F := Ideal) x1 (ValueIdx.ix3 b k n) = E (column x1 b k) n := by
  have := n.isLt
  rw [val_main_v13_apply, val_main_v0_apply]
  unfold E column
  rw [dif_pos (show n.val < 43 by omega)]
  exact congrArg (fun i => Ideal.exp (x1 i)) (idx3 _ _ rfl rfl rfl)

variable (K : Clear (column x1 b k) w e)
include K

/-- The clipped width is the width. -/
theorem v3_at (n : Fin 21) : val_main_v3 (F := Ideal) x1 (ValueIdx.ix3 b k n) = (w n : ℝ) := by
  rw [val_main_v3_apply, v2_at, val_main_call0_v1_apply, K.hw n n.isLt]
  exact max_eq_right (K.wlo n n.isLt)

/-- The accumulated width. -/
theorem v4_at (n : Fin 21) : val_main_v4 (F := Ideal) x1 (ValueIdx.ix3 b k n) = (sw w (n + 1) : ℝ) := by
  unfold val_main_v4
  refine (Scan.cumsum_last (A := 65536) (B := 16) (M := 20) _ _ (fun i => ?_) _ _ (fun i => (w i : EReal)) b k
    (fun n => v3_at K n) n).trans ?_
  · rw [val_main_call1_call0_v0_apply]
    exact Ideal.ofBits_zero_f32
  · unfold sw
    exact (map_sum (⟨⟨((↑) : ℝ → EReal), EReal.coe_zero⟩, EReal.coe_add⟩ : ℝ →+ EReal) _ _).symm

/-- The total width. -/
theorem v5_at : val_main_v5 (F := Ideal) x1 (ValueIdx.ix3 b k 0) = (tot w : ℝ) := by
  rw [val_main_v5_apply, show idx_main_v5 (ValueIdx.ix3 b k 0) = ValueIdx.ix3 b k 20 from idx3 _ _ rfl rfl rfl]
  exact v4_at K 20

/-- The clipped normalized width is the normalized width. -/
theorem v8_at (n : Fin 21) : val_main_v8 (F := Ideal) x1 (ValueIdx.ix3 b k n) = (nw w n : ℝ) := by
  have h6 : val_main_v6 (F := Ideal) x1 (ValueIdx.ix3 b k n) = (tot w : ℝ) := by
    rw [val_main_v6_apply, show idx_main_v6 (ValueIdx.ix3 b k n) = ValueIdx.ix3 b k 0 from idx3 _ _ rfl rfl rfl]
    exact v5_at K
  rw [val_main_v8_apply, val_main_v7_apply, v3_at K, h6, val_main_call2_v1_apply]
  exact (congrArg (max _) (div_real _ (tot_pos K.wpos).ne')).trans (max_eq_right (K.nwlo n n.isLt))

/-- The right edge of a bin. -/
theorem v10_at (n : Fin 21) : val_main_v10 (F := Ideal) x1 (ValueIdx.ix3 b k n) = (edge w (n + 1) : ℝ) := by
  have h9 : val_main_v9 (F := Ideal) x1 (ValueIdx.ix3 b k n) = (tot w : ℝ) := by
    rw [val_main_v9_apply, show idx_main_v9 (ValueIdx.ix3 b k n) = ValueIdx.ix3 b k 0 from idx3 _ _ rfl rfl rfl]
    exact v5_at K
  rw [val_main_v10_apply, v4_at K, h9]
  exact div_real _ (tot_pos K.wpos).ne'

/-- The left edge of a bin. -/
theorem v12_at (n : Fin 22) : val_main_v12 (F := Ideal) x1 (ValueIdx.ix3 b k n) = (edge w n : ℝ) := by
  rcases n with ⟨_ | n, hn⟩
  · refine (Scan.cat_zero (A := 65536) (B := 16) (N := 21) (M := 22) _ _ _ b k hn).trans ?_
    rw [val_main_v11_apply]
    refine Ideal.ofBits_zero_f32.trans ?_
    simp [edge, sw]
  · refine (Scan.cat_succ (A := 65536) (B := 16) (N := 21) (M := 22) _ _ _ b k n (by omega) hn).trans ?_
    exact v10_at K ⟨n, by omega⟩

/-- The area the heights are normalized by. -/
theorem v20_at : val_main_v20 (F := Ideal) x1 (ValueIdx.ix2 b k) = (area w e : ℝ) := by
  have hterm : ∀ n : Fin 21, val_main_v19 (F := Ideal) x1 (idx_main_v20 (ValueIdx.ix2 b k) n)
      = (((e n + e (n + 1)) / 2 * (w n / tot w) : ℝ) : EReal) := fun n => by
    have := n.isLt
    rw [show idx_main_v20 (ValueIdx.ix2 b k) n = ValueIdx.ix3 b k n from idx3 _ _ rfl rfl rfl, val_main_v19_apply, v8_at K,
      val_main_v18_apply, val_main_v16_apply, val_main_v14_apply, val_main_v15_apply, val_main_v17_apply,
      show idx_main_v14 (ValueIdx.ix3 b k n) = ValueIdx.ix3 b k ⟨n, by omega⟩ from idx3 _ _ rfl rfl rfl,
      show idx_main_v15 (ValueIdx.ix3 b k n) = ValueIdx.ix3 b k ⟨n + 1, by omega⟩ from idx3 _ _ rfl rfl (Nat.add_comm 1 n.val),
      v13_at, v13_at, K.he _ (by omega), K.he _ (by omega)]
    show Ideal.div ((e n : EReal) + (e (n + 1) : EReal)) (Ideal.ofBits .f32 0x40000000#32) * (nw w n : EReal) = _
    rw [two_bits, ← EReal.coe_add, div_real _ two_ne_zero, ← EReal.coe_mul]
    rfl
  rw [val_main_v20_apply, Finset.sum_congr rfl (fun n _ => hterm n), val_main_cst_3_apply]
  refine (congrArg (· + _) Ideal.ofBits_zero_f32).trans ?_
  rw [zero_add, Fin.sum_univ_eq_sum_range (fun j => (((e j + e (j + 1)) / 2 * (w j / tot w) : ℝ) : EReal)) 21]
  exact (map_sum (⟨⟨((↑) : ℝ → EReal), EReal.coe_zero⟩, EReal.coe_add⟩ : ℝ →+ EReal) _ _).symm

/-- The clipped normalized height is the normalized height. -/
theorem v24_at (n : Fin 22) : val_main_v24 (F := Ideal) x1 (ValueIdx.ix3 b k n) = (nv w e n : ℝ) := by
  have h22 : val_main_v22 (F := Ideal) x1 (ValueIdx.ix3 b k n) = (area w e : ℝ) := by
    rw [val_main_v22_apply, val_main_v21_apply,
      show idx_main_v21 (idx_main_v22 (ValueIdx.ix3 b k n)) = ValueIdx.ix2 b k from idx2 _ _ rfl rfl]
    exact v20_at K
  rw [val_main_v24_apply, val_main_v23_apply, v13_at, K.he n n.isLt, h22, val_main_call3_v1_apply]
  exact (congrArg (max _) (div_real _ (area_pos K.wpos K.epos).ne')).trans (max_eq_right (K.nvlo n n.isLt))

/-- The area over a bin. -/
theorem v57_at (n : Fin 21) :
    val_main_v57 (F := Ideal) x1 (ValueIdx.ix3 b k n) = ((nv w e n + nv w e (n + 1)) / 2 * nw w n : ℝ) := by
  have := n.isLt
  rw [val_main_v57_apply, v8_at K, val_main_v56_apply, val_main_v54_apply, val_main_v52_apply, val_main_v53_apply,
    val_main_v55_apply, show idx_main_v52 (ValueIdx.ix3 b k n) = ValueIdx.ix3 b k ⟨n, by omega⟩ from idx3 _ _ rfl rfl rfl,
    show idx_main_v53 (ValueIdx.ix3 b k n) = ValueIdx.ix3 b k ⟨n + 1, by omega⟩ from idx3 _ _ rfl rfl (Nat.add_comm 1 n.val),
    v24_at K, v24_at K]
  show Ideal.div ((nv w e n : EReal) + (nv w e (n + 1) : EReal)) (Ideal.ofBits .f32 0x40000000#32) * (nw w n : EReal) = _
  rw [two_bits, ← EReal.coe_add, div_real _ two_ne_zero, ← EReal.coe_mul]

/-- The area to the left of a bin. -/
theorem v59_at (n : Fin 22) : val_main_v59 (F := Ideal) x1 (ValueIdx.ix3 b k n) = (left w e n : ℝ) := by
  rcases n with ⟨_ | n, hn⟩
  · refine (Scan.cat_zero (A := 65536) (B := 16) (N := 21) (M := 22) _ _ _ b k hn).trans ?_
    rw [val_main_v11_apply]
    refine Ideal.ofBits_zero_f32.trans ?_
    simp [left]
  · refine (Scan.cat_succ (A := 65536) (B := 16) (N := 21) (M := 22) _ _ _ b k n (by omega) hn).trans ?_
    unfold val_main_v58
    refine (Scan.cumsum_last (A := 65536) (B := 16) (M := 20) _ _ (fun i => ?_) _ _
      (fun i => (((nv w e i + nv w e (i + 1)) / 2 * nw w i : ℝ) : EReal)) b k (fun n => v57_at K n) ⟨n, by omega⟩).trans ?_
    · rw [val_main_call10_call0_v0_apply]
      exact Ideal.ofBits_zero_f32
    · exact (map_sum (⟨⟨((↑) : ℝ → EReal), EReal.coe_zero⟩, EReal.coe_add⟩ : ℝ →+ EReal) _ _).symm

/-! ## The bin -/

section Bin

variable (hm : IsCut w (x0 (ValueIdx.ix2 b k)) m)
include hm

/-- Each right edge that is at most `x`, zero in place of each that is not. -/
theorem v34_at (n : Fin 21) : val_main_v34 (F := Ideal) x0 x1 (ValueIdx.ix3 b k n) = (cand w m (n + 1) : ℝ) := by
  rw [val_main_v34_apply, val_main_v30_apply, val_main_v27_apply, v10_at K, val_main_v26_apply, val_main_v25_apply,
    show idx_main_v25 (idx_main_v26 (ValueIdx.ix3 b k n)) = ValueIdx.ix2 b k from idx2 _ _ rfl rfl]
  show Scalar.select (BitVec.ofBool (decide (x0 (ValueIdx.ix2 b k) < (edge w (n + 1) : EReal)))) (val_main_v28 (F := Ideal) _)
    (val_main_v29 (F := Ideal) _) * (edge w (n + 1) : EReal) = _
  rw [select_ofBool, val_main_v28_apply, val_main_v29_apply]
  have hn := hm.2 n n.isLt
  show (if _ then Ideal.ofBits .f32 0x00000000#32 else Ideal.ofBits .f32 0x3F800000#32) * _
    = (((if n.val < m then 1 else 0) * edge w (n + 1) : ℝ) : EReal)
  rw [Ideal.ofBits_zero_f32, Ideal.ofBits_one_f32, EReal.coe_mul]
  congr 1
  by_cases h : n.val < m
  · rw [if_neg (not_lt.mpr (hn.mpr h)), if_pos h, EReal.coe_one]
  · rw [if_pos (not_le.mp (fun h' => h (hn.mp h'))), if_neg h, EReal.coe_zero]

/-- The entries the reference looks for the largest of. -/
theorem v35_at (n : Fin 22) : val_main_v35 (F := Ideal) x0 x1 (ValueIdx.ix3 b k n) = (cand w m n : ℝ) := by
  rcases n with ⟨_ | n, hn⟩
  · refine (Scan.cat_zero (A := 65536) (B := 16) (N := 21) (M := 22) _ _ _ b k hn).trans ?_
    rw [val_main_v33_apply, val_main_v31_apply, val_main_v32_apply]
    show Ideal.ofBits .f32 0x3F800000#32 * Ideal.ofBits .f32 0x34000000#32 = _
    rw [Ideal.ofBits_one_f32, one_mul, eps_bits]
    rfl
  · refine (Scan.cat_succ (A := 65536) (B := 16) (N := 21) (M := 22) _ _ _ b k n (by omega) hn).trans ?_
    exact v34_at K hm ⟨n, by omega⟩

/-- The largest entry. -/
theorem v36_at : val_main_v36 (F := Ideal) x0 x1 (ValueIdx.ix2 b k) = (cand w m m : ℝ) := by
  have := hm.1
  unfold val_main_v36
  refine (Scan.max_last (A := 65536) (B := 16) (N := 22) _ _ (fun i => ?_) _ (by decide) _ b k ⟨m, by omega⟩ (fun n => ?_)).trans
    (v35_at K hm ⟨m, by omega⟩)
  · exact negInf_bits
  · rw [v35_at K hm, v35_at K hm, EReal.coe_le_coe_iff]
    by_cases h : n.val = m
    · rw [h]
    · exact (cand_lt K.toGood n.val h).le

/-- Where an entry is the largest, its place; elsewhere 22. -/
theorem v41_at (n : Fin 22) : (val_main_v41 (F := Ideal) x0 x1 (ValueIdx.ix3 b k n)).toInt = if n.val = m then (m : ℤ) else 22 := by
  have hmax : val_main_v39 (F := Ideal) x0 x1 (ValueIdx.ix3 b k n) = (cand w m m : ℝ) := by
    rw [val_main_v39_apply, val_main_v37_apply,
      show idx_main_v37 (idx_main_v39 (ValueIdx.ix3 b k n)) = ValueIdx.ix2 b k from idx2 _ _ rfl rfl]
    exact v36_at K hm
  rw [val_main_v41_apply, val_main_v40_apply, v35_at K hm, hmax, val_main_call5_v1_apply]
  show (Scalar.select (BitVec.ofBool (decide ((cand w m n : EReal) = (cand w m m : EReal)))) (BitVec.ofNat 32 n.val) 22#32).toInt = _
  rw [select_ofBool]
  have := n.isLt
  by_cases h : n.val = m
  · rw [if_pos (by rw [h]), if_pos h, BitVec.toInt_ofNat', ← h]
    exact Int.bmod_eq_of_le (by omega) (by omega)
  · rw [if_neg (fun h' => (cand_lt K.toGood n.val h).ne (EReal.coe_eq_coe_iff.mp h')), if_neg h]
    rfl

/-- The place of the largest entry. -/
theorem v42_at : (val_main_v42 (F := Ideal) x0 x1 (ValueIdx.ix2 b k)).toInt = m := by
  have := hm.1
  unfold val_main_v42
  refine Scan.min_last (A := 65536) (B := 16) (N := 22) _ _ m (fun i => ?_) _ (by decide) _ b k ⟨m, by omega⟩ ?_ (fun n => ?_)
  · show (m : ℤ) ≤ 2147483647
    omega
  · exact (v41_at K hm _).trans (if_pos rfl)
  · rw [v41_at K hm]
    split <;> omega

/-- The bin: the place, 20 at most. -/
theorem v44_at : (val_main_v44 (F := Ideal) x0 x1 (ValueIdx.ix3 b k 0)).toInt = min m 20 := by
  rw [val_main_v44_apply, val_main_call6_v2_apply, val_main_call6_v1_apply, val_main_call6_v4_apply, val_main_v43_apply,
    show idx_main_v43 (ValueIdx.ix3 b k 0) = ValueIdx.ix2 b k from idx2 _ _ rfl rfl, Scan.minsi_toInt, maxsi_toInt, v42_at K hm]
  show min (20 : ℤ) (max 0 m) = _
  omega

end Bin

omit K in
/-- The bin is one of the twenty-one, whatever the arguments. -/
theorem v44_range (i : S65536x16x1.Idx) :
    0 ≤ (val_main_v44 (F := Ideal) x0 x1 i).toInt ∧ (val_main_v44 (F := Ideal) x0 x1 i).toInt ≤ 20 := by
  rw [val_main_v44_apply, val_main_call6_v2_apply, val_main_call6_v1_apply, val_main_call6_v4_apply, Scan.minsi_toInt, maxsi_toInt]
  show 0 ≤ min (20 : ℤ) (max 0 _) ∧ min (20 : ℤ) (max 0 _) ≤ 20
  omega

end Cert.ReferenceIdeal.Stages

end
-- ==== Proof.Take.lean ====
/- `take_along_axis` along the last axis at one index an element: the indexing operations the reference prints for it,
   read at an index that is in range. -/
module

public import Idealize.ShloMosaic.PureOps
public import Idealize.ShloMosaic.Lib.ValueIdxCore
public import Idealize.ShloMosaic.Lib.Pipeline.ValueKit
public import Idealize.ShloMosaic.Lib.ReduceAll
public import Idealize.ShloMosaic.Lib.WordCmp

@[expose] public section

noncomputable section

namespace Cert.Take

open Idealize.ShloMosaic

variable {α : Type} {A B N : ℕ}

/-- The dimension numbers of a gather of one element along the last axis, the other two axes batched. -/
def lastDims (A B N : ℕ)
    (wf : GatherDims.WF ⟨3, ![A, B, N]⟩ ⟨4, ![A, B, 1, 1]⟩ ⟨3, ![A, B, 1]⟩ [] [2] [0, 1] [2] [0, 1] 3 ![1, 1, 1]) :
    GatherDims ⟨3, ![A, B, N]⟩ ⟨4, ![A, B, 1, 1]⟩ ⟨3, ![A, B, 1]⟩ where
  offsetDims := []
  collapsedSliceDims := [2]
  operandBatchingDims := [0, 1]
  startIndicesBatchingDims := [0, 1]
  startIndexMap := [2]
  indexVectorDim := 3
  sliceSizes := ![1, 1, 1]
  wf := wf

/-- The gather at `(a, b)` is the operand there, at the start index when that is in range. -/
theorem gather_last
    (wf : GatherDims.WF ⟨3, ![A, B, N]⟩ ⟨4, ![A, B, 1, 1]⟩ ⟨3, ![A, B, 1]⟩ [] [2] [0, 1] [2] [0, 1] 3 ![1, 1, 1])
    (y : (⟨3, ![A, B, N]⟩ : Shape).Idx → α) (s : IVec ⟨4, ![A, B, 1, 1]⟩ 32) (a : Fin A) (b : Fin B) (n : Fin N)
    (hs : (s (ValueIdx.ix4 a b 0 0)).toInt.toNat = n.val) :
    Host.gather (lastDims A B N wf) y s (ValueIdx.ix3 a b 0) = y (ValueIdx.ix3 a b n) := by
  unfold Host.gather
  congr 1
  funext q
  refine Fin.ext ?_
  show (lastDims A B N wf).start (ValueIdx.ix3 a b 0) s q + (lastDims A B N wf).batchCoord (ValueIdx.ix3 a b 0) q
    + (lastDims A B N wf).offCoord (ValueIdx.ix3 a b 0) q = _
  have hoff : ∀ q, (lastDims A B N wf).offCoord (ValueIdx.ix3 a b 0) q = 0 := fun q =>
    GatherDims.offCoord_eq_zero _ _ _ fun h => by
      have h' := (GatherDims.mem_sKept _ _).mp h
      match q with
      | ⟨0, _⟩ => exact h'.2 (by simp [lastDims])
      | ⟨1, _⟩ => exact h'.2 (by simp [lastDims])
      | ⟨2, _⟩ => exact h'.1 (by simp [lastDims])
  rw [hoff, Nat.add_zero]
  have hq : q = 0 ∨ q = 1 ∨ q = 2 := by
    match q with
    | ⟨0, _⟩ => exact Or.inl rfl
    | ⟨1, _⟩ => exact Or.inr (Or.inl rfl)
    | ⟨2, _⟩ => exact Or.inr (Or.inr rfl)
  rcases hq with rfl | rfl | rfl
  · rw [GatherDims.start_batching _ _ _ _ (by simp [lastDims]), Nat.zero_add]
    unfold GatherDims.batchCoord
    rw [dif_pos (by simp [lastDims])]
    rfl
  · rw [GatherDims.start_batching _ _ _ _ (by simp [lastDims]), Nat.zero_add]
    unfold GatherDims.batchCoord
    rw [dif_pos (by simp [lastDims])]
    rfl
  · rw [GatherDims.batchCoord_eq_zero _ _ _ (by simp [lastDims]), Nat.add_zero]
    unfold GatherDims.start
    rw [dif_pos (show (2 : Fin 3) ∈ (lastDims A B N wf).startIndexMap from List.mem_singleton.mpr rfl)]
    have hi : (lastDims A B N wf).siIdx (ValueIdx.ix3 a b 0) ⟨List.idxOf (2 : Fin 3) (lastDims A B N wf).startIndexMap,
        List.idxOf_lt_length_iff.2 (List.mem_singleton.mpr rfl)⟩ = ValueIdx.ix4 a b 0 0 := by
      funext c; refine Fin.ext ?_
      match c with
      | ⟨0, _⟩ => rfl
      | ⟨1, _⟩ => rfl
      | ⟨2, _⟩ => rfl
      | ⟨3, _⟩ => rfl
    rw [hi, hs]
    have := n.isLt
    show min n.val (N - 1) = n.val
    omega

/-- An index with a unit axis put behind it names the same element. -/
theorem unit_axis (h : (⟨3, ![A, B, 1]⟩ : Shape).ShapeCasts ⟨4, ![A, B, 1, 1]⟩) (x : (⟨3, ![A, B, 1]⟩ : Shape).Idx → α)
    (j : (⟨4, ![A, B, 1, 1]⟩ : Shape).Idx) :
    shapeCast ⟨4, ![A, B, 1, 1]⟩ x h j = x (ValueIdx.ix3 (j 0) (j 1) (j 2)) := by
  refine shapeCast_apply x h _ _ ?_
  have h3 : (j 3).val = 0 := by have : (j 3).val < 1 := (j 3).isLt; omega
  rw [Shape.rowMajor_val_three, Shape.rowMajor_val_four]
  show ((j 0).val * B + (j 1).val) * 1 + (j 2).val = (((j 0).val * B + (j 1).val) * 1 + (j 2).val) * 1 + (j 3).val
  omega

/-- The indices, a negative one counted from the end, with a unit axis behind them. -/
def wrapped (p z c : IVec ⟨3, ![A, B, 1]⟩ 32) (h : (⟨3, ![A, B, 1]⟩ : Shape).ShapeCasts ⟨4, ![A, B, 1, 1]⟩) :
    IVec ⟨4, ![A, B, 1, 1]⟩ 32 :=
  shapeCast _ (select (cmpi .slt p z) (addi p c) p) h

/-- Where no index is negative, the wrapped indices are the indices. -/
theorem wrapped_at (p z c : IVec ⟨3, ![A, B, 1]⟩ 32) (h : (⟨3, ![A, B, 1]⟩ : Shape).ShapeCasts ⟨4, ![A, B, 1, 1]⟩)
    (hz : ∀ i, z i = 0#32) (hp : ∀ i, 0 ≤ (p i).toInt) (j : (⟨4, ![A, B, 1, 1]⟩ : Shape).Idx) :
    wrapped p z c h j = p (ValueIdx.ix3 (j 0) (j 1) (j 2)) := by
  unfold wrapped
  rw [unit_axis]
  show Scalar.select (IntOp.cmpi .slt (p _) (z _)) _ _ = _
  rw [hz]
  have h0 := hp (ValueIdx.ix3 (j 0) (j 1) (j 2))
  have : IntOp.cmpi .slt (p (ValueIdx.ix3 (j 0) (j 1) (j 2))) 0#32 = 0#1 := by
    rw [WordCmp.cmpi_slt_eq, decide_eq_false (by simpa using h0)]
    rfl
  rw [this]
  rfl

/-- Taking one element along the last axis: the operand at the index, where every index is in range. -/
theorem take_last
    (wf : GatherDims.WF ⟨3, ![A, B, N]⟩ ⟨4, ![A, B, 1, 1]⟩ ⟨3, ![A, B, 1]⟩ [] [2] [0, 1] [2] [0, 1] 3 ![1, 1, 1])
    (h : (⟨3, ![A, B, 1]⟩ : Shape).ShapeCasts ⟨4, ![A, B, 1, 1]⟩) {u : Shape} {axes : List (Fin 4)} (hu : 0 < u.numel)
    (hr : (⟨4, ![A, B, 1, 1]⟩ : Shape).ReducesTo axes ⟨3, ![A, B, 1]⟩)
    (y : (⟨3, ![A, B, N]⟩ : Shape).Idx → α) (p z c : IVec ⟨3, ![A, B, 1]⟩ 32) (z' w : IVec ⟨4, ![A, B, 1, 1]⟩ 32)
    (init : u.Idx → BitVec 1) (nan : (⟨3, ![A, B, 1]⟩ : Shape).Idx → α)
    (hz : ∀ i, z i = 0#32) (hz' : ∀ i, z' i = 0#32) (hw : ∀ i, (w i).toInt = N - 1) (hi : ∀ i, init i = 1#1)
    (hp : ∀ i, 0 ≤ (p i).toInt ∧ (p i).toInt < N) (a : Fin A) (b : Fin B) (n : Fin N)
    (hn : (p (ValueIdx.ix3 a b 0)).toInt.toNat = n.val) :
    select (Host.reduce IntOp.andi (andi (cmpi .sge (wrapped p z c h) z') (cmpi .sle (wrapped p z c h) w)) init hr hu)
      (Host.gather (lastDims A B N wf) y (wrapped p z c h)) nan (ValueIdx.ix3 a b 0) = y (ValueIdx.ix3 a b n) := by
  show Scalar.select (Host.reduce IntOp.andi _ init hr hu _) (Host.gather (lastDims A B N wf) y _ _) _ = _
  rw [Host.reduce_andi_one _ _ _ _ _ (hi _) fun j => ?_, gather_last wf y _ a b n]
  · rfl
  · rw [wrapped_at p z c h hz (fun i => (hp i).1)]
    exact hn
  · show IntOp.andi (IntOp.cmpi .sge (wrapped p z c h j) (z' j)) (IntOp.cmpi .sle (wrapped p z c h j) (w j)) = 1#1
    rw [wrapped_at p z c h hz (fun i => (hp i).1), hz']
    have h0 := hp (ValueIdx.ix3 (j 0) (j 1) (j 2))
    have h1 := hw j
    have e0 : IntOp.cmpi .sge (p (ValueIdx.ix3 (j 0) (j 1) (j 2))) 0#32 = 1#1 := by
      rw [WordCmp.cmpi_sge_eq, decide_eq_true (by simpa using h0.1)]
      rfl
    have e1 : IntOp.cmpi .sle (p (ValueIdx.ix3 (j 0) (j 1) (j 2))) (w j) = 1#1 := by
      rw [WordCmp.cmpi_sle_eq, decide_eq_true (by rw [h1]; omega)]
      rfl
    rw [e0, e1]
    rfl

end Cert.Take

end
-- ==== Proof.Taken.lean ====
/- The reference's nine reads along the last axis: each is the operand at the bin, or at the knot after it. -/
module

public import proofs.«01_k».proof.Proof.Stages
public import proofs.«01_k».proof.Proof.Take

@[expose] public section

noncomputable section

namespace Cert.ReferenceIdeal.Taken

open Cert.ReferenceIdeal Cert.ReferenceIdeal.Gen Cert.ReferenceIdeal.Read Cert.ReferenceIdeal.Stages Cert.Flow Idealize.ShloMosaic
open Cert.KernelIdeal.Arrays (column)

/-- The read of one of 22 entries at the places `p`. -/
def take22 (p : IVec S65536x16x1 32) (y : FVec Ideal S65536x16x22 .f32) : FVec Ideal S65536x16x1 .f32 :=
  select (Host.reduce IntOp.andi
      (andi (cmpi .sge (Take.wrapped p (val_main_call7_v0 (F := Ideal)) (val_main_call7_v2 (F := Ideal)) shapeCasts_S65536x16x1_S65536x16x1x1)
          (val_main_call7_v6 (F := Ideal)))
        (cmpi .sle (Take.wrapped p (val_main_call7_v0 (F := Ideal)) (val_main_call7_v2 (F := Ideal)) shapeCasts_S65536x16x1_S65536x16x1x1)
          (val_main_call7_v9 (F := Ideal))))
      (val_main_call7_c_3 (F := Ideal)) reducesTo_S65536x16x1x1_S65536x16x1_d3 h_S_)
    (Host.gather gather_S65536x16x22_S65536x16x1x1_S65536x16x1_n_2_01_01_2_3_111 y
      (Take.wrapped p (val_main_call7_v0 (F := Ideal)) (val_main_call7_v2 (F := Ideal)) shapeCasts_S65536x16x1_S65536x16x1x1))
    (val_main_call7_v14 (F := Ideal))

/-- The read of one of 21 entries at the places `p`. -/
def take21 (p : IVec S65536x16x1 32) (y : FVec Ideal S65536x16x21 .f32) : FVec Ideal S65536x16x1 .f32 :=
  select (Host.reduce IntOp.andi
      (andi (cmpi .sge (Take.wrapped p (val_main_call8_v0 (F := Ideal)) (val_main_call8_v2 (F := Ideal)) shapeCasts_S65536x16x1_S65536x16x1x1)
          (val_main_call8_v6 (F := Ideal)))
        (cmpi .sle (Take.wrapped p (val_main_call8_v0 (F := Ideal)) (val_main_call8_v2 (F := Ideal)) shapeCasts_S65536x16x1_S65536x16x1x1)
          (val_main_call8_v9 (F := Ideal))))
      (val_main_call8_c_3 (F := Ideal)) reducesTo_S65536x16x1x1_S65536x16x1_d3 h_S_)
    (Host.gather gather_S65536x16x21_S65536x16x1x1_S65536x16x1_n_2_01_01_2_3_111 y
      (Take.wrapped p (val_main_call8_v0 (F := Ideal)) (val_main_call8_v2 (F := Ideal)) shapeCasts_S65536x16x1_S65536x16x1x1))
    (val_main_call8_v14 (F := Ideal))

/-- At a place in range the read is the operand there. -/
theorem take22_at (p : IVec S65536x16x1 32) (y : FVec Ideal S65536x16x22 .f32)
    (hp : ∀ i, 0 ≤ (p i).toInt ∧ (p i).toInt ≤ 21) (b : Fin 65536) (k : Fin 16) (n : Fin 22)
    (hn : (p (ValueIdx.ix3 b k 0)).toInt = n.val) : take22 p y (ValueIdx.ix3 b k 0) = y (ValueIdx.ix3 b k n) :=
  Take.take_last (A := 65536) (B := 16) (N := 22) (by decide) _ _ _ y p _ _ _ _ _ _
    (fun i => val_main_call7_v0_apply i) (fun i => val_main_call7_v6_apply i)
    (fun i => by rw [val_main_call7_v9_apply, val_main_call7_v8_apply]; rfl) (fun _ => rfl)
    (fun i => by have := hp i; constructor <;> push_cast <;> omega) b k n (by omega)

/-- At a place in range the read is the operand there. -/
theorem take21_at (p : IVec S65536x16x1 32) (y : FVec Ideal S65536x16x21 .f32)
    (hp : ∀ i, 0 ≤ (p i).toInt ∧ (p i).toInt ≤ 20) (b : Fin 65536) (k : Fin 16) (n : Fin 21)
    (hn : (p (ValueIdx.ix3 b k 0)).toInt = n.val) : take21 p y (ValueIdx.ix3 b k 0) = y (ValueIdx.ix3 b k n) :=
  Take.take_last (A := 65536) (B := 16) (N := 21) (by decide) _ _ _ y p _ _ _ _ _ _
    (fun i => val_main_call8_v0_apply i) (fun i => val_main_call8_v6_apply i)
    (fun i => by rw [val_main_call8_v9_apply, val_main_call8_v8_apply]; rfl) (fun _ => rfl)
    (fun i => by have := hp i; constructor <;> push_cast <;> omega) b k n (by omega)

variable {x0 : (⟨S65536x16, .f32⟩ : BufTy).Contents (Elt Ideal)} {x1 : (⟨S65536x16x43, .f32⟩ : BufTy).Contents (Elt Ideal)}
  {b : Fin 65536} {k : Fin 16} {w e : ℕ → ℝ} {m : ℕ} (K : Clear (column x1 b k) w e) (hm : IsCut w (x0 (ValueIdx.ix2 b k)) m)

/-- The place of the knot after the bin is one more than the bin's. -/
theorem v64_toInt (i : S65536x16x1.Idx) :
    (val_main_v64 (F := Ideal) x0 x1 i).toInt = (val_main_v44 (F := Ideal) x0 x1 i).toInt + 1 := by
  rw [val_main_v64_apply, val_main_v63_apply]
  have h := v44_range (x0 := x0) (x1 := x1) i
  show (val_main_v44 (F := Ideal) x0 x1 i + 1#32).toInt = _
  rw [BitVec.toInt_add]
  exact Int.bmod_eq_of_le (by show -(4294967296 / 2 : ℤ) ≤ _ + 1; omega) (by show _ + 1 < (4294967296 + 1) / 2; omega)

/-- The bin is one of the 22 places, whatever the arguments. -/
theorem p44 (i : S65536x16x1.Idx) :
    0 ≤ (val_main_v44 (F := Ideal) x0 x1 i).toInt ∧ (val_main_v44 (F := Ideal) x0 x1 i).toInt ≤ 21 := by
  have h := v44_range (x0 := x0) (x1 := x1) i
  omega

/-- So is the knot after it. -/
theorem p64 (i : S65536x16x1.Idx) :
    0 ≤ (val_main_v64 (F := Ideal) x0 x1 i).toInt ∧ (val_main_v64 (F := Ideal) x0 x1 i).toInt ≤ 21 := by
  have h := v44_range (x0 := x0) (x1 := x1) i
  rw [v64_toInt]
  omega

include K hm

/-- A read of 22 entries at the bin. -/
theorem bin22 (y : FVec Ideal S65536x16x22 .f32) :
    take22 (val_main_v44 (F := Ideal) x0 x1) y (ValueIdx.ix3 b k 0) = y (ValueIdx.ix3 b k ⟨min m 20, by omega⟩) :=
  take22_at _ y p44 b k ⟨min m 20, by omega⟩ ((v44_at K hm).trans (by push_cast; rfl))

/-- A read of 21 entries at the bin. -/
theorem bin21 (y : FVec Ideal S65536x16x21 .f32) :
    take21 (val_main_v44 (F := Ideal) x0 x1) y (ValueIdx.ix3 b k 0) = y (ValueIdx.ix3 b k ⟨min m 20, by omega⟩) :=
  take21_at _ y v44_range b k ⟨min m 20, by omega⟩ ((v44_at K hm).trans (by push_cast; rfl))

/-- A read of 22 entries at the knot after the bin. -/
theorem next22 (y : FVec Ideal S65536x16x22 .f32) :
    take22 (val_main_v64 (F := Ideal) x0 x1) y (ValueIdx.ix3 b k 0) = y (ValueIdx.ix3 b k ⟨min m 20 + 1, by omega⟩) :=
  take22_at _ y p64 b k ⟨min m 20 + 1, by omega⟩ (by rw [v64_toInt, v44_at K hm]; push_cast; rfl)

/-- The bin's left edge. -/
theorem v45_at : val_main_v45 (F := Ideal) x0 x1 (ValueIdx.ix3 b k 0) = (edge w (min m 20) : ℝ) :=
  (bin22 K hm (val_main_v12 (F := Ideal) x1)).trans (v12_at K _)

/-- The bin's normalized width. -/
theorem v48_at : val_main_v48 (F := Ideal) x0 x1 (ValueIdx.ix3 b k 0) = (nw w (min m 20) : ℝ) :=
  (bin21 K hm (val_main_v8 (F := Ideal) x1)).trans (v8_at K _)

/-- The height at the knot after the bin. -/
theorem v65_at : val_main_v65 (F := Ideal) x0 x1 (ValueIdx.ix3 b k 0) = (nv w e (min m 20 + 1) : ℝ) :=
  (next22 K hm (val_main_v24 (F := Ideal) x1)).trans (v24_at K _)

/-- The height at the bin's knot. -/
theorem v66_at : val_main_v66 (F := Ideal) x0 x1 (ValueIdx.ix3 b k 0) = (nv w e (min m 20) : ℝ) :=
  (bin22 K hm (val_main_v24 (F := Ideal) x1)).trans (v24_at K _)

/-- The bin's normalized width, in the quadratic term. -/
theorem v68_at : val_main_v68 (F := Ideal) x0 x1 (ValueIdx.ix3 b k 0) = (nw w (min m 20) : ℝ) :=
  (bin21 K hm (val_main_v8 (F := Ideal) x1)).trans (v8_at K _)

/-- The height at the bin's knot, in the linear term. -/
theorem v72_at : val_main_v72 (F := Ideal) x0 x1 (ValueIdx.ix3 b k 0) = (nv w e (min m 20) : ℝ) :=
  (bin22 K hm (val_main_v24 (F := Ideal) x1)).trans (v24_at K _)

/-- The bin's normalized width, in the linear term. -/
theorem v75_at : val_main_v75 (F := Ideal) x0 x1 (ValueIdx.ix3 b k 0) = (nw w (min m 20) : ℝ) :=
  (bin21 K hm (val_main_v8 (F := Ideal) x1)).trans (v8_at K _)

/-- The area to the left of the bin. -/
theorem v78_at : val_main_v78 (F := Ideal) x0 x1 (ValueIdx.ix3 b k 0) = (left w e (min m 20) : ℝ) :=
  (bin22 K hm (val_main_v59 (F := Ideal) x1)).trans (v59_at K _)

/-- The height at the bin's knot, in the interpolated height. -/
theorem v83_at : val_main_v83 (F := Ideal) x0 x1 (ValueIdx.ix3 b k 0) = (nv w e (min m 20) : ℝ) :=
  (bin22 K hm (val_main_v24 (F := Ideal) x1)).trans (v24_at K _)

/-- The height at the knot after the bin, in the interpolated height. -/
theorem v87_at : val_main_v87 (F := Ideal) x0 x1 (ValueIdx.ix3 b k 0) = (nv w e (min m 20 + 1) : ℝ) :=
  (next22 K hm (val_main_v24 (F := Ideal) x1)).trans (v24_at K _)

omit K hm in
/-- An array with its last unit axis dropped, read. -/
theorem drop_at (i : S65536x16x1.Idx) (h0 : (i 0).val = (b.val * 16 + k.val) / 16)
    (h1 : (i 1).val = (b.val * 16 + k.val) / 1 % 16) : i = ValueIdx.ix3 b k 0 :=
  idx3 _ _ (h0.trans (by have := k.isLt; show _ = b.val; omega)) (h1.trans (by have := k.isLt; show _ = k.val; omega))
    (by have : (i 2).val < 1 := (i 2).isLt; show _ = 0; omega)

/-- The place of `x` in its bin. -/
theorem v51_at : val_main_v51 (F := Ideal) x0 x1 (ValueIdx.ix2 b k) = place w (x0 (ValueIdx.ix2 b k)) (min m 20) := by
  rw [val_main_v51_apply, val_main_call9_v2_apply, val_main_call9_v1_apply, val_main_call9_v4_apply, val_main_v50_apply,
    val_main_v47_apply, val_main_v46_apply, val_main_v49_apply, drop_at (idx_main_v46 (ValueIdx.ix2 b k)) rfl rfl,
    drop_at (idx_main_v49 (ValueIdx.ix2 b k)) rfl rfl, v45_at K hm, v48_at K hm]
  show min (Ideal.ofBits .f32 0x3F800000#32) (max (Ideal.ofBits .f32 0x00000000#32) _) = _
  rw [Ideal.ofBits_zero_f32, Ideal.ofBits_one_f32]
  rfl

/-- The reference's first result is the kernel's arithmetic. -/
theorem v82_at : val_main_v82 (F := Ideal) x0 x1 (ValueIdx.ix2 b k) = kout (x0 (ValueIdx.ix2 b k)) (column x1 b k) := by
  rw [val_main_v82_apply, val_main_call17_v1_apply, val_main_call17_v0_apply, val_main_call17_v2_apply, val_main_v81_apply,
    val_main_v80_apply, val_main_v71_apply, val_main_v62_apply, val_main_v60_apply, val_main_v61_apply, val_main_v70_apply,
    val_main_v77_apply, val_main_v74_apply, val_main_v73_apply, val_main_v76_apply, val_main_v79_apply,
    drop_at (idx_main_v70 (ValueIdx.ix2 b k)) rfl rfl, drop_at (idx_main_v73 (ValueIdx.ix2 b k)) rfl rfl,
    drop_at (idx_main_v76 (ValueIdx.ix2 b k)) rfl rfl, drop_at (idx_main_v79 (ValueIdx.ix2 b k)) rfl rfl,
    val_main_v69_apply, val_main_v67_apply, v51_at K hm, v65_at K hm, v66_at K hm, v68_at K hm, v72_at K hm, v75_at K hm,
    v78_at K hm, kout_eq K.toGood hm]
  rfl

/-- The reference's height at `x` is the kernel's. -/
theorem v91_at : val_main_v91 (F := Ideal) x0 x1 (ValueIdx.ix2 b k) = klerp (x0 (ValueIdx.ix2 b k)) (column x1 b k) := by
  rw [val_main_v91_apply, val_main_v90_apply, val_main_v89_apply, val_main_v84_apply, val_main_v88_apply,
    drop_at (idx_main_v84 (ValueIdx.ix2 b k)) rfl rfl, drop_at (idx_main_v88 (ValueIdx.ix2 b k)) rfl rfl,
    v83_at K hm, v87_at K hm, v51_at K hm, klerp_eq K.toGood hm]
  rfl

/-- Its logarithm. -/
theorem v92_at : val_main_v92 (F := Ideal) x0 x1 (ValueIdx.ix2 b k) = Ideal.log (klerp (x0 (ValueIdx.ix2 b k)) (column x1 b k)) := by
  rw [val_main_v92_apply, v91_at K hm]
  rfl

omit K hm

variable (x0 x1) (hK : ∀ b k, ∃ w e, Clear (column x1 b k) w e)
include hK

/-- The reference's first result, where every column is clear. -/
theorem out_eq : val_main_v82 (F := Ideal) x0 x1 = Cert.KernelIdeal.Arrays.OUT x0 x1 := by
  funext i
  obtain ⟨w, e, K⟩ := hK (i 0) (i 1)
  obtain ⟨m, hm⟩ := cut_exists K.wpos (x0 (ValueIdx.ix2 (i 0) (i 1)))
  have h := v82_at K hm
  rw [show i = ValueIdx.ix2 (i 0) (i 1) from idx2 _ _ rfl rfl]
  refine h.trans ?_
  unfold Cert.KernelIdeal.Arrays.OUT
  exact congrArg (fun j => kout (x0 j) (column x1 (i 0) (i 1))) (idx2 _ _ rfl rfl)

/-- The reference's second result, where every column is clear. -/
theorem logj_eq : val_main_v94 (F := Ideal) x0 x1 = Cert.KernelIdeal.Arrays.LOGJ x0 x1 := by
  funext i
  rw [val_main_v94_apply, val_main_v93_apply, val_main_cst_21_apply]
  refine (congrArg (· + _) Ideal.ofBits_zero_f32).trans ((zero_add _).trans (Finset.sum_congr rfl fun k _ => ?_))
  obtain ⟨w, e, K⟩ := hK (i 0) k
  obtain ⟨m, hm⟩ := cut_exists K.wpos (x0 (ValueIdx.ix2 (i 0) k))
  refine (congrArg (val_main_v92 (F := Ideal) x0 x1)
    (idx2 (idx_main_v93 (idx_main_v94 i) k) (ValueIdx.ix2 (i 0) k) rfl rfl)).trans ((v92_at K hm).trans ?_)
  exact congrArg (fun j => Ideal.log (klerp (x0 j) (column x1 (i 0) k))) (idx2 _ _ rfl rfl)

end Cert.ReferenceIdeal.Taken

end
-- ==== Proof.Pre.lean ====
/- What the precondition says of a column: the reference's three lower clips change nothing there, so it is clear. -/
module

public import proofs.«01_k».proof.Pre_clips_idle
public import proofs.«01_k».proof.Proof.Arrays
public import proofs.«01_k».proof.Proof.Clear
public import Idealize.ShloMosaic.Lib.ReduceAll
public import Idealize.ShloMosaic.Lib.Pipeline.Value
public import Idealize.ShloMosaic.PureOps.Ideal.Laws

@[expose] public section

noncomputable section

namespace Cert.Pre_clips_idle

open Idealize.ShloMosaic Cert.Flow
open Cert.KernelIdeal.Arrays (column)

/-- The shape relations the precondition's operations take. -/
theorem facts : Facts where
  slices_S65536x16x43_S65536x16x21_0_0_22 := by decide
  slices_S65536x16x43_S65536x16x22_0_0_0 := by decide
  reducesTo_S65536x16x21_S65536x16_d2 := by decide
  h_S_ := by decide
  bcast_S65536x16_S65536x16x1_0_1 := by decide
  bcast_S65536x16x1_S65536x16x21_0_1_2 := by decide
  slices_S65536x16x22_S65536x16x21_0_0_0 := by decide
  slices_S65536x16x22_S65536x16x21_0_0_1 := by decide
  bcast_S_S65536x16x21 := by decide
  bcast_S65536x16x1_S65536x16x22_0_1_2 := by decide
  reducesTo_S65536x16x21_S_d0_1_2 := by decide
  bcast_S_S65536x16x22 := by decide
  reducesTo_S65536x16x22_S_d0_1_2 := by decide

/-- An array of no axes has one index. -/
instance : Subsingleton S_.Idx := ⟨fun _ _ => funext fun q => q.elim0⟩

/-- An array compared with one value: where every element passes, every element is at least the value. -/
theorem all_ge {s : Shape} {axes : List (Fin s.rank)} (y : FVec Ideal s .f32) (z : FVec Ideal s .f32) (init : IVec S_ 1)
    (h : s.ReducesTo axes S_) (hu : 0 < S_.numel) (j : S_.Idx)
    (hall : Host.reduce IntOp.andi (cmpf .oge y z) init h hu j = 1#1) (i : s.Idx) : z i ≤ y i := by
  have h1 := Host.reduce_andi_all _ _ _ _ j hall i
  by_contra hc
  rw [show cmpf .oge y z i = BitVec.ofBool (decide (z i ≤ y i)) from rfl, decide_eq_false hc] at h1
  exact absurd h1 (by decide)

variable (x0 : FVec Ideal S65536x16 .f32) (x1 : FVec Ideal S65536x16x43 .f32)

section
variable [Facts]
open Facts

/-- The widths. -/
def wv1 : FVec Ideal S65536x16x21 .f32 := Host.exp ((extractStridedSlice S65536x16x21 ![0, 0, 22] · slices_S65536x16x43_S65536x16x21_0_0_22) x1)

/-- The heights. -/
def wv3 : FVec Ideal S65536x16x22 .f32 := Host.exp ((extractStridedSlice S65536x16x22 ![0, 0, 0] · slices_S65536x16x43_S65536x16x22_0_0_0) x1)

/-- The normalized widths. -/
def wv7 : FVec Ideal S65536x16x21 .f32 :=
  Host.divf (wv1 x1) (broadcastInDim S65536x16x21 ![0, 1, 2] bcast_S65536x16x1_S65536x16x21_0_1_2
    (broadcastInDim S65536x16x1 ![0, 1] bcast_S65536x16_S65536x16x1_0_1
      (Host.reduceAdd (wv1 x1) (constant S_ .f32 0x00000000#32) reducesTo_S65536x16x21_S65536x16_d2 h_S_)))

/-- The areas over the bins. -/
def wv13 : FVec Ideal S65536x16x21 .f32 :=
  mulf (Host.divf (addf ((extractStridedSlice S65536x16x21 ![0, 0, 0] · slices_S65536x16x22_S65536x16x21_0_0_0) (wv3 x1))
      ((extractStridedSlice S65536x16x21 ![0, 0, 1] · slices_S65536x16x22_S65536x16x21_0_0_1) (wv3 x1)))
    (broadcastInDim S65536x16x21 ![] bcast_S_S65536x16x21 (constant S_ .f32 0x40000000#32))) (wv7 x1)

/-- The normalized heights. -/
def wv17 : FVec Ideal S65536x16x22 .f32 :=
  Host.divf (wv3 x1) (broadcastInDim S65536x16x22 ![0, 1, 2] bcast_S65536x16x1_S65536x16x22_0_1_2
    (broadcastInDim S65536x16x1 ![0, 1] bcast_S65536x16_S65536x16x1_0_1
      (Host.reduceAdd (wv13 x1) (constant S_ .f32 0x00000000#32) reducesTo_S65536x16x21_S65536x16_d2 h_S_)))

/-- The precondition, its three tests apart. -/
theorem tests (h : fn (F := Ideal) x0 x1 = fun _ => 1#1) :
    (∀ i, clip ≤ wv1 x1 i) ∧ (∀ i, clip ≤ wv7 x1 i) ∧ ∀ i, clip ≤ wv17 x1 i := by
  have h' := congrFun h (Shape.Idx.first h_S_)
  obtain ⟨h12, h3⟩ := IntOp.andi_eq_one.mp h'
  obtain ⟨h1, h2⟩ := IntOp.andi_eq_one.mp h12
  exact ⟨fun i => all_ge _ _ _ _ _ _ h1 i, fun i => all_ge _ _ _ _ _ _ h2 i, fun i => all_ge _ _ _ _ _ _ h3 i⟩

/-- Indices of rank three agree when their coordinates do. -/
theorem idx3 {A B N : ℕ} (i j : (⟨3, ![A, B, N]⟩ : Shape).Idx) (h0 : (i 0).val = (j 0).val) (h1 : (i 1).val = (j 1).val)
    (h2 : (i 2).val = (j 2).val) : i = j :=
  funext fun q => Fin.ext (match q with | ⟨0, _⟩ => h0 | ⟨1, _⟩ => h1 | ⟨2, _⟩ => h2)

variable {b : Fin 65536} {k : Fin 16}

/-- A width, read. -/
theorem wv1_at (n : Fin 21) : wv1 x1 (ix3 b k n) = W (column x1 b k) n := by
  have := n.isLt
  refine (congrArg Ideal.exp (extractStridedSlice_apply ![0, 0, 22] x1 slices_S65536x16x43_S65536x16x21_0_0_22 (ix3 b k n)
    (ix3 b k ⟨22 + n.val, by omega⟩) (fun q => match q with
    | ⟨0, _⟩ => (Nat.zero_add _).symm
    | ⟨1, _⟩ => (Nat.zero_add _).symm
    | ⟨2, _⟩ => rfl))).trans ?_
  unfold W column
  rw [dif_pos (show 22 + n.val < 43 by omega)]

/-- A height, read. -/
theorem wv3_at (n : Fin 22) : wv3 x1 (ix3 b k n) = E (column x1 b k) n := by
  have := n.isLt
  refine (congrArg Ideal.exp (extractStridedSlice_apply ![0, 0, 0] x1 slices_S65536x16x43_S65536x16x22_0_0_0 (ix3 b k n)
    (ix3 b k ⟨n.val, by omega⟩) (fun q => match q with
    | ⟨0, _⟩ => (Nat.zero_add _).symm
    | ⟨1, _⟩ => (Nat.zero_add _).symm
    | ⟨2, _⟩ => (Nat.zero_add _).symm))).trans ?_
  unfold E column
  rw [dif_pos (show n.val < 43 by omega)]

/-- A quotient of arrays, read. -/
theorem divf_at {s : Shape} (y z : FVec Ideal s .f32) (i : s.Idx) : Host.divf y z i = Ideal.div (y i) (z i) := rfl

/-- A sum over the last axis. -/
theorem sum_at (y : FVec Ideal S65536x16x21 .f32) :
    Host.reduceAdd y (constant S_ .f32 0x00000000#32) reducesTo_S65536x16x21_S65536x16_d2 h_S_ (ix2 b k)
      = ∑ j : Fin 21, y (ix3 b k j) := by
  simp only [Host.reduceAdd, Ideal.hostReduceAdd_def]
  rw [Ideal.hostReduceAdd_single reducesTo_S65536x16x21_S65536x16_d2 (by decide)]
  refine (congrArg (· + _) Ideal.ofBits_zero_f32).trans ((zero_add _).trans (Finset.sum_congr rfl fun j _ => ?_))
  exact congrArg y (idx3 _ _ rfl rfl rfl)

/-- One value a row, put beside each of its entries. -/
theorem spread_at (y : FVec Ideal S65536x16 .f32) :
    broadcastInDim S65536x16x1 ![0, 1] bcast_S65536x16_S65536x16x1_0_1 y (ix3 b k 0) = y (ix2 b k) :=
  broadcastInDim_apply _ bcast_S65536x16_S65536x16x1_0_1 y (ix3 b k 0) (ix2 b k) (fun q => match q with
    | ⟨0, _⟩ => by show b.val = if (65536 : Nat) = 1 then 0 else b.val; rw [if_neg (by decide)]
    | ⟨1, _⟩ => by show k.val = if (16 : Nat) = 1 then 0 else k.val; rw [if_neg (by decide)])

/-- The same, beside each of 21 entries. -/
theorem spread21_at (y : FVec Ideal S65536x16x1 .f32) (n : Fin 21) :
    broadcastInDim S65536x16x21 ![0, 1, 2] bcast_S65536x16x1_S65536x16x21_0_1_2 y (ix3 b k n) = y (ix3 b k 0) :=
  broadcastInDim_apply _ bcast_S65536x16x1_S65536x16x21_0_1_2 y (ix3 b k n) (ix3 b k 0) (fun q => match q with
    | ⟨0, _⟩ => by show b.val = if (65536 : Nat) = 1 then 0 else b.val; rw [if_neg (by decide)]
    | ⟨1, _⟩ => by show k.val = if (16 : Nat) = 1 then 0 else k.val; rw [if_neg (by decide)]
    | ⟨2, _⟩ => by show 0 = if (1 : Nat) = 1 then 0 else n.val; rw [if_pos rfl])

/-- The same, beside each of 22 entries. -/
theorem spread22_at (y : FVec Ideal S65536x16x1 .f32) (n : Fin 22) :
    broadcastInDim S65536x16x22 ![0, 1, 2] bcast_S65536x16x1_S65536x16x22_0_1_2 y (ix3 b k n) = y (ix3 b k 0) :=
  broadcastInDim_apply _ bcast_S65536x16x1_S65536x16x22_0_1_2 y (ix3 b k n) (ix3 b k 0) (fun q => match q with
    | ⟨0, _⟩ => by show b.val = if (65536 : Nat) = 1 then 0 else b.val; rw [if_neg (by decide)]
    | ⟨1, _⟩ => by show k.val = if (16 : Nat) = 1 then 0 else k.val; rw [if_neg (by decide)]
    | ⟨2, _⟩ => by show 0 = if (1 : Nat) = 1 then 0 else n.val; rw [if_pos rfl])

/-- A normalized width, read. -/
theorem wv7_at (n : Fin 21) : wv7 x1 (ix3 b k n) = Ideal.div (W (column x1 b k) n) (wsum (column x1 b k)) := by
  unfold wv7
  rw [divf_at, spread21_at, spread_at, sum_at, wv1_at, Finset.sum_congr rfl (fun j _ => wv1_at x1 j)]
  rfl

/-- The area over a bin, read. -/
theorem wv13_at (n : Fin 21) : wv13 x1 (ix3 b k n)
    = Ideal.div (E (column x1 b k) n + E (column x1 b k) (n + 1)) (Ideal.ofBits .f32 0x40000000#32)
      * Ideal.div (W (column x1 b k) n) (wsum (column x1 b k)) := by
  have := n.isLt
  show Ideal.div (extractStridedSlice S65536x16x21 ![0, 0, 0] (wv3 x1) slices_S65536x16x22_S65536x16x21_0_0_0 (ix3 b k n)
    + extractStridedSlice S65536x16x21 ![0, 0, 1] (wv3 x1) slices_S65536x16x22_S65536x16x21_0_0_1 (ix3 b k n))
      (broadcastInDim S65536x16x21 ![] bcast_S_S65536x16x21 (constant (F := Ideal) S_ .f32 0x40000000#32) (ix3 b k n))
    * wv7 x1 (ix3 b k n) = _
  rw [wv7_at,
    extractStridedSlice_apply ![0, 0, 0] (wv3 x1) slices_S65536x16x22_S65536x16x21_0_0_0 (ix3 b k n) (ix3 b k ⟨n.val, by omega⟩)
      (fun q => match q with
      | ⟨0, _⟩ => (Nat.zero_add _).symm
      | ⟨1, _⟩ => (Nat.zero_add _).symm
      | ⟨2, _⟩ => (Nat.zero_add _).symm),
    extractStridedSlice_apply ![0, 0, 1] (wv3 x1) slices_S65536x16x22_S65536x16x21_0_0_1 (ix3 b k n) (ix3 b k ⟨n.val + 1, by omega⟩)
      (fun q => match q with
      | ⟨0, _⟩ => (Nat.zero_add _).symm
      | ⟨1, _⟩ => (Nat.zero_add _).symm
      | ⟨2, _⟩ => Nat.add_comm _ _),
    wv3_at, wv3_at]
  rfl

/-- A normalized height, read. -/
theorem wv17_at (n : Fin 22) : wv17 x1 (ix3 b k n) = Ideal.div (E (column x1 b k) n) (asum (column x1 b k)) := by
  unfold wv17
  rw [divf_at, spread22_at, spread_at, sum_at, wv3_at, Finset.sum_congr rfl (fun j _ => wv13_at x1 j)]
  rfl

/-- Under the precondition every column is clear. -/
theorem clear (h : fn (F := Ideal) x0 x1 = fun _ => 1#1) (b : Fin 65536) (k : Fin 16) : ∃ w e, Clear (column x1 b k) w e := by
  obtain ⟨h1, h2, h3⟩ := tests x0 x1 h
  exact clear_of_idle (fun i hi => (h1 (ix3 b k ⟨i, hi⟩)).trans_eq (wv1_at x1 ⟨i, hi⟩))
    (fun i hi => (h2 (ix3 b k ⟨i, hi⟩)).trans_eq (wv7_at x1 ⟨i, hi⟩))
    (fun i hi => (h3 (ix3 b k ⟨i, hi⟩)).trans_eq (wv17_at x1 ⟨i, hi⟩))

end

end Cert.Pre_clips_idle

end
-- ==== Proof.lean ====
/- `Cert.Claim`: the two programs and the reference run and leave the machine quiescent, the idealization is the
   program's own text, and at the ideal instance kernel and reference end with equal results under the precondition. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Arrays
public import proofs.«01_k».proof.Proof.Taken
public import proofs.«01_k».proof.Proof.Pre
public import Idealize.ShloMosaic.Adequacy
public import Idealize.ShloMosaic.Init

@[expose] public section

noncomputable section

namespace Cert.Proof

open Idealize.ShloMosaic Idealize.ShloMosaic.StableHlo Idealize.ShloMosaic.TcCoe Idealize.SL.Sem

attribute [local instance] Cert.Kernel.Gen.facts Cert.KernelIdeal.Gen.facts Cert.ReferenceIdeal.Gen.facts Cert.Pre_clips_idle.facts

/-- The kernel runs, leaves its arguments unchanged and the machine quiescent. -/
theorem quiescent_kernel : Cert.quiescent_Kernel := fun m g _ => Cert.Kernel.Gen.frame m g

/-- So does its idealization. -/
theorem quiescent_ideal : Cert.quiescent_KernelIdeal := fun m g _ => Cert.KernelIdeal.Gen.frame m g

/-- So does the reference, which has no semaphore. -/
theorem quiescent_reference : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- The reference's two results as functions of its arguments, from any memory. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v82)
          = Cert.ReferenceIdeal.Read.val_main_v82 (F := Ideal) (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_v94)
          = Cert.ReferenceIdeal.Read.val_main_v94 (F := Ideal) (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)) :=
  (θ_run Cert.ReferenceIdeal.defs _ _).mono (fun r h c =>
    ⟨(h c).1.trans (Cert.ReferenceIdeal.Read.val_main_v82_eq (launchContents m c)),
      (h c).2.1.trans (Cert.ReferenceIdeal.Read.val_main_v94_eq (launchContents m c)), (h c).2.2⟩)
    (Cert.ReferenceIdeal.Value.run (F := Ideal) m g)

/-- Under the precondition, from equal arguments, kernel and reference end with equal results. -/
theorem algebraic : Cert.algebraic_KernelIdeal_ReferenceIdeal_pre_clips_idle := by
  intro m g m' g' hpre hagree
  refine ⟨fun c => Cert.KernelIdeal.Arrays.OUT (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.KernelIdeal.Arrays.LOGJ (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Arrays.run m g, ?_⟩
  refine (θ_run Cert.ReferenceIdeal.defs _ _).mono (fun r h c => ?_) (reference_run m' g')
  obtain ⟨h0, h1, h2, h3⟩ := h c
  have hclear := Cert.Pre_clips_idle.clear _ _ (hpre c)
  rw [(hagree c).1, (hagree c).2] at h0 h1
  exact ⟨h0.trans (Cert.ReferenceIdeal.Taken.out_eq _ _ hclear), h1.trans (Cert.ReferenceIdeal.Taken.logj_eq _ _ hclear), h2, h3⟩

/-- Every claim the certificate makes. -/
theorem claim : Cert.Claim :=
  ⟨Cert.Kernel.Gen.facts, Cert.KernelIdeal.Gen.facts, Cert.ReferenceIdeal.Gen.facts, Cert.Pre_clips_idle.facts,
    quiescent_kernel, quiescent_ideal, fun m g _ => Cert.KernelIdeal.Gen.frame m g, quiescent_reference,
    fun m g _ => quiescent_reference m g trivial, trivial, algebraic⟩

end Cert.Proof

end
